-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddRwkvIn (m : (ℓ : Loc Cert.OddRwkvIn.nD Cert.OddRwkvIn.τ Cert.OddRwkvIn.sig) → Buf (Elt Bits) ℓ) : Prop :=
  True

def Pre_OddRwkvInIdeal (m : (ℓ : Loc Cert.OddRwkvInIdeal.nD Cert.OddRwkvInIdeal.τ Cert.OddRwkvInIdeal.sig) → Buf (Elt Ideal) ℓ) : Prop :=
  True

def Pre_OddRwkvInRefIdeal (m : (ℓ : Loc Cert.OddRwkvInRefIdeal.nD Cert.OddRwkvInRefIdeal.τ Cert.OddRwkvInRefIdeal.sig) → Buf (Elt Ideal) ℓ) : Prop :=
  True

def Pre_OddSsmIn (m : (ℓ : Loc Cert.OddSsmIn.nD Cert.OddSsmIn.τ Cert.OddSsmIn.sig) → Buf (Elt Bits) ℓ) : Prop :=
  True

def Pre_OddSsmInIdeal (m : (ℓ : Loc Cert.OddSsmInIdeal.nD Cert.OddSsmInIdeal.τ Cert.OddSsmInIdeal.sig) → Buf (Elt Ideal) ℓ) : Prop :=
  True

def Pre_OddSsmInRefIdeal (m : (ℓ : Loc Cert.OddSsmInRefIdeal.nD Cert.OddSsmInRefIdeal.τ Cert.OddSsmInRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Down [hPre_in_range : Cert.Pre_in_range.Facts] (m : (ℓ : Loc Cert.Down.nD Cert.Down.τ Cert.Down.sig) → Buf (Elt Bits) ℓ) : Prop :=
  ∀ c : Dev Cert.Down.nD,
    (Cert.Pre_in_range.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_in_range : Cert.Pre_in_range.Facts] (m : (ℓ : Loc Cert.DownIdeal.nD Cert.DownIdeal.τ Cert.DownIdeal.sig) → Buf (Elt Ideal) ℓ) : Prop :=
  ∀ c : Dev Cert.DownIdeal.nD,
    (Cert.Pre_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownIdeal_routed [hPre_routed : Cert.Pre_routed.Facts] (m : (ℓ : Loc Cert.DownIdeal.nD Cert.DownIdeal.τ Cert.DownIdeal.sig) → Buf (Elt Ideal) ℓ) : Prop :=
  ∀ c : Dev Cert.DownIdeal.nD,
    (Cert.Pre_routed.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).1 = (fun _ => 1#1)
    ∧ (Cert.Pre_routed.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.1 = (fun _ => 1#1)
    ∧ (Cert.Pre_routed.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.1 = (fun _ => 1#1)
    ∧ (Cert.Pre_routed.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.2.1 = (fun _ => 1#1)
    ∧ (Cert.Pre_routed.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_routed [hPre_routed : Cert.Pre_routed.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_routed.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).1 = (fun _ => 1#1)
    ∧ (Cert.Pre_routed.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.1 = (fun _ => 1#1)
    ∧ (Cert.Pre_routed.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.1 = (fun _ => 1#1)
    ∧ (Cert.Pre_routed.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.2.1 = (fun _ => 1#1)
    ∧ (Cert.Pre_routed.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_OddRwkvIn [hOddRwkvIn : Cert.OddRwkvIn.Facts] : Prop :=
  ∀ (m : (ℓ : Loc Cert.OddRwkvIn.nD Cert.OddRwkvIn.τ Cert.OddRwkvIn.sig) → Buf (Elt Bits) ℓ) (g : Dev Cert.OddRwkvIn.nD → PrngReg), Pre_OddRwkvIn m →
    θ_run (Cert.OddRwkvIn.defs (F := Bits)) (onTc (τ := Cert.OddRwkvIn.τ) (Cert.OddRwkvIn.main (F := Bits))) ⟨m, fun _ => 0, g⟩ (fun r => (∀ c : Dev Cert.OddRwkvIn.nD,
      r.2.mem ((c.tc : Thread Cert.OddRwkvIn.nD Cert.OddRwkvIn.τ).loc Cert.OddRwkvIn.main_arg0) = m ((c.tc : Thread Cert.OddRwkvIn.nD Cert.OddRwkvIn.τ).loc Cert.OddRwkvIn.main_arg0)
      ∧ r.2.mem ((c.tc : Thread Cert.OddRwkvIn.nD Cert.OddRwkvIn.τ).loc Cert.OddRwkvIn.main_arg1) = m ((c.tc : Thread Cert.OddRwkvIn.nD Cert.OddRwkvIn.τ).loc Cert.OddRwkvIn.main_arg1))
      ∧ r.2.sem = fun _ => 0)

def quiescent_OddRwkvInIdeal [hOddRwkvInIdeal : Cert.OddRwkvInIdeal.Facts] : Prop :=
  ∀ (m : (ℓ : Loc Cert.OddRwkvInIdeal.nD Cert.OddRwkvInIdeal.τ Cert.OddRwkvInIdeal.sig) → Buf (Elt Ideal) ℓ) (g : Dev Cert.OddRwkvInIdeal.nD → PrngReg), Pre_OddRwkvInIdeal m →
    θ_run (Cert.OddRwkvInIdeal.defs (F := Ideal)) (onTc (τ := Cert.OddRwkvInIdeal.τ) (Cert.OddRwkvInIdeal.main (F := Ideal))) ⟨m, fun _ => 0, g⟩ (fun r => (∀ c : Dev Cert.OddRwkvInIdeal.nD,
      r.2.mem ((c.tc : Thread Cert.OddRwkvInIdeal.nD Cert.OddRwkvInIdeal.τ).loc Cert.OddRwkvInIdeal.main_arg0) = m ((c.tc : Thread Cert.OddRwkvInIdeal.nD Cert.OddRwkvInIdeal.τ).loc Cert.OddRwkvInIdeal.main_arg0)
      ∧ r.2.mem ((c.tc : Thread Cert.OddRwkvInIdeal.nD Cert.OddRwkvInIdeal.τ).loc Cert.OddRwkvInIdeal.main_arg1) = m ((c.tc : Thread Cert.OddRwkvInIdeal.nD Cert.OddRwkvInIdeal.τ).loc Cert.OddRwkvInIdeal.main_arg1))
      ∧ r.2.sem = fun _ => 0)

def quiescent_OddRwkvInRefIdeal [hOddRwkvInRefIdeal : Cert.OddRwkvInRefIdeal.Facts] : Prop :=
  ∀ (m : (ℓ : Loc Cert.OddRwkvInRefIdeal.nD Cert.OddRwkvInRefIdeal.τ Cert.OddRwkvInRefIdeal.sig) → Buf (Elt Ideal) ℓ) (g : Dev Cert.OddRwkvInRefIdeal.nD → PrngReg), Pre_OddRwkvInRefIdeal m →
    θ_run (Cert.OddRwkvInRefIdeal.defs (F := Ideal)) (onTc (τ := Cert.OddRwkvInRefIdeal.τ) (Cert.OddRwkvInRefIdeal.main (F := Ideal))) ⟨m, fun _ => 0, g⟩ (fun r => (∀ c : Dev Cert.OddRwkvInRefIdeal.nD,
      r.2.mem ((c.tc : Thread Cert.OddRwkvInRefIdeal.nD Cert.OddRwkvInRefIdeal.τ).loc Cert.OddRwkvInRefIdeal.main_arg0) = m ((c.tc : Thread Cert.OddRwkvInRefIdeal.nD Cert.OddRwkvInRefIdeal.τ).loc Cert.OddRwkvInRefIdeal.main_arg0)
      ∧ r.2.mem ((c.tc : Thread Cert.OddRwkvInRefIdeal.nD Cert.OddRwkvInRefIdeal.τ).loc Cert.OddRwkvInRefIdeal.main_arg1) = m ((c.tc : Thread Cert.OddRwkvInRefIdeal.nD Cert.OddRwkvInRefIdeal.τ).loc Cert.OddRwkvInRefIdeal.main_arg1))
      ∧ r.2.sem = fun _ => 0)

def quiescent_OddSsmIn [hOddSsmIn : Cert.OddSsmIn.Facts] : Prop :=
  ∀ (m : (ℓ : Loc Cert.OddSsmIn.nD Cert.OddSsmIn.τ Cert.OddSsmIn.sig) → Buf (Elt Bits) ℓ) (g : Dev Cert.OddSsmIn.nD → PrngReg), Pre_OddSsmIn m →
    θ_run (Cert.OddSsmIn.defs (F := Bits)) (onTc (τ := Cert.OddSsmIn.τ) (Cert.OddSsmIn.main (F := Bits))) ⟨m, fun _ => 0, g⟩ (fun r => (∀ c : Dev Cert.OddSsmIn.nD,
      r.2.mem ((c.tc : Thread Cert.OddSsmIn.nD Cert.OddSsmIn.τ).loc Cert.OddSsmIn.main_arg0) = m ((c.tc : Thread Cert.OddSsmIn.nD Cert.OddSsmIn.τ).loc Cert.OddSsmIn.main_arg0)
      ∧ r.2.mem ((c.tc : Thread Cert.OddSsmIn.nD Cert.OddSsmIn.τ).loc Cert.OddSsmIn.main_arg1) = m ((c.tc : Thread Cert.OddSsmIn.nD Cert.OddSsmIn.τ).loc Cert.OddSsmIn.main_arg1))
      ∧ r.2.sem = fun _ => 0)

def quiescent_OddSsmInIdeal [hOddSsmInIdeal : Cert.OddSsmInIdeal.Facts] : Prop :=
  ∀ (m : (ℓ : Loc Cert.OddSsmInIdeal.nD Cert.OddSsmInIdeal.τ Cert.OddSsmInIdeal.sig) → Buf (Elt Ideal) ℓ) (g : Dev Cert.OddSsmInIdeal.nD → PrngReg), Pre_OddSsmInIdeal m →
    θ_run (Cert.OddSsmInIdeal.defs (F := Ideal)) (onTc (τ := Cert.OddSsmInIdeal.τ) (Cert.OddSsmInIdeal.main (F := Ideal))) ⟨m, fun _ => 0, g⟩ (fun r => (∀ c : Dev Cert.OddSsmInIdeal.nD,
      r.2.mem ((c.tc : Thread Cert.OddSsmInIdeal.nD Cert.OddSsmInIdeal.τ).loc Cert.OddSsmInIdeal.main_arg0) = m ((c.tc : Thread Cert.OddSsmInIdeal.nD Cert.OddSsmInIdeal.τ).loc Cert.OddSsmInIdeal.main_arg0)
      ∧ r.2.mem ((c.tc : Thread Cert.OddSsmInIdeal.nD Cert.OddSsmInIdeal.τ).loc Cert.OddSsmInIdeal.main_arg1) = m ((c.tc : Thread Cert.OddSsmInIdeal.nD Cert.OddSsmInIdeal.τ).loc Cert.OddSsmInIdeal.main_arg1))
      ∧ r.2.sem = fun _ => 0)

def quiescent_OddSsmInRefIdeal [hOddSsmInRefIdeal : Cert.OddSsmInRefIdeal.Facts] : Prop :=
  ∀ (m : (ℓ : Loc Cert.OddSsmInRefIdeal.nD Cert.OddSsmInRefIdeal.τ Cert.OddSsmInRefIdeal.sig) → Buf (Elt Ideal) ℓ) (g : Dev Cert.OddSsmInRefIdeal.nD → PrngReg), Pre_OddSsmInRefIdeal m →
    θ_run (Cert.OddSsmInRefIdeal.defs (F := Ideal)) (onTc (τ := Cert.OddSsmInRefIdeal.τ) (Cert.OddSsmInRefIdeal.main (F := Ideal))) ⟨m, fun _ => 0, g⟩ (fun r => (∀ c : Dev Cert.OddSsmInRefIdeal.nD,
      r.2.mem ((c.tc : Thread Cert.OddSsmInRefIdeal.nD Cert.OddSsmInRefIdeal.τ).loc Cert.OddSsmInRefIdeal.main_arg0) = m ((c.tc : Thread Cert.OddSsmInRefIdeal.nD Cert.OddSsmInRefIdeal.τ).loc Cert.OddSsmInRefIdeal.main_arg0)
      ∧ r.2.mem ((c.tc : Thread Cert.OddSsmInRefIdeal.nD Cert.OddSsmInRefIdeal.τ).loc Cert.OddSsmInRefIdeal.main_arg1) = m ((c.tc : Thread Cert.OddSsmInRefIdeal.nD Cert.OddSsmInRefIdeal.τ).loc Cert.OddSsmInRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Down [hDown : Cert.Down.Facts] [hPre_in_range : Cert.Pre_in_range.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_in_range : Cert.Pre_in_range.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownIdeal_pre_routed [hDownIdeal : Cert.DownIdeal.Facts] [hPre_routed : Cert.Pre_routed.Facts] : Prop :=
  ∀ (m : (ℓ : Loc Cert.DownIdeal.nD Cert.DownIdeal.τ Cert.DownIdeal.sig) → Buf (Elt Ideal) ℓ) (g : Dev Cert.DownIdeal.nD → PrngReg), Pre_DownIdeal_routed m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRefIdeal_pre_routed [hDownRefIdeal : Cert.DownRefIdeal.Facts] [hPre_routed : Cert.Pre_routed.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_routed m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v188)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v1) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v2) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_OddRwkvIn_OddRwkvInIdeal : Prop :=
  True

def algebraic_OddRwkvInIdeal_OddRwkvInRefIdeal [hOddRwkvInIdeal : Cert.OddRwkvInIdeal.Facts] [hOddRwkvInRefIdeal : Cert.OddRwkvInRefIdeal.Facts] : Prop :=
  ∀ (m : (ℓ : Loc Cert.OddRwkvInIdeal.nD Cert.OddRwkvInIdeal.τ Cert.OddRwkvInIdeal.sig) → Buf (Elt Ideal) ℓ) (g : Dev Cert.OddRwkvInIdeal.nD → PrngReg)
    (m' : (ℓ : Loc Cert.OddRwkvInRefIdeal.nD Cert.OddRwkvInRefIdeal.τ Cert.OddRwkvInRefIdeal.sig) → Buf (Elt Ideal) ℓ) (g' : Dev Cert.OddRwkvInRefIdeal.nD → PrngReg), Pre_OddRwkvInIdeal m →
    (∀ c : Dev Cert.OddRwkvInIdeal.nD,
      m' ((c.tc : Thread Cert.OddRwkvInRefIdeal.nD Cert.OddRwkvInRefIdeal.τ).loc Cert.OddRwkvInRefIdeal.main_arg0) = m ((c.tc : Thread Cert.OddRwkvInIdeal.nD Cert.OddRwkvInIdeal.τ).loc Cert.OddRwkvInIdeal.main_arg0)
      ∧ m' ((c.tc : Thread Cert.OddRwkvInRefIdeal.nD Cert.OddRwkvInRefIdeal.τ).loc Cert.OddRwkvInRefIdeal.main_arg1) = m ((c.tc : Thread Cert.OddRwkvInIdeal.nD Cert.OddRwkvInIdeal.τ).loc Cert.OddRwkvInIdeal.main_arg1)) →
    ∃ (v0 : (c : Dev Cert.OddRwkvInIdeal.nD) → Buf (Elt Ideal) ((c.tc : Thread Cert.OddRwkvInIdeal.nD Cert.OddRwkvInIdeal.τ).loc Cert.OddRwkvInIdeal.main_v1)),
      θ_run (Cert.OddRwkvInIdeal.defs (F := Ideal)) (onTc (τ := Cert.OddRwkvInIdeal.τ) (Cert.OddRwkvInIdeal.main (F := Ideal))) ⟨m, fun _ => 0, g⟩ (fun r => ∀ c : Dev Cert.OddRwkvInIdeal.nD,
          r.2.mem ((c.tc : Thread Cert.OddRwkvInIdeal.nD Cert.OddRwkvInIdeal.τ).loc Cert.OddRwkvInIdeal.main_v1) = v0 c
          ∧ r.2.mem ((c.tc : Thread Cert.OddRwkvInIdeal.nD Cert.OddRwkvInIdeal.τ).loc Cert.OddRwkvInIdeal.main_arg0) = m ((c.tc : Thread Cert.OddRwkvInIdeal.nD Cert.OddRwkvInIdeal.τ).loc Cert.OddRwkvInIdeal.main_arg0)
          ∧ r.2.mem ((c.tc : Thread Cert.OddRwkvInIdeal.nD Cert.OddRwkvInIdeal.τ).loc Cert.OddRwkvInIdeal.main_arg1) = m ((c.tc : Thread Cert.OddRwkvInIdeal.nD Cert.OddRwkvInIdeal.τ).loc Cert.OddRwkvInIdeal.main_arg1))
      ∧ θ_run (Cert.OddRwkvInRefIdeal.defs (F := Ideal)) (onTc (τ := Cert.OddRwkvInRefIdeal.τ) (Cert.OddRwkvInRefIdeal.main (F := Ideal))) ⟨m', fun _ => 0, g'⟩ (fun r => ∀ c : Dev Cert.OddRwkvInRefIdeal.nD,
          r.2.mem ((c.tc : Thread Cert.OddRwkvInRefIdeal.nD Cert.OddRwkvInRefIdeal.τ).loc Cert.OddRwkvInRefIdeal.main_v2) = v0 c
          ∧ r.2.mem ((c.tc : Thread Cert.OddRwkvInRefIdeal.nD Cert.OddRwkvInRefIdeal.τ).loc Cert.OddRwkvInRefIdeal.main_arg0) = m' ((c.tc : Thread Cert.OddRwkvInRefIdeal.nD Cert.OddRwkvInRefIdeal.τ).loc Cert.OddRwkvInRefIdeal.main_arg0)
          ∧ r.2.mem ((c.tc : Thread Cert.OddRwkvInRefIdeal.nD Cert.OddRwkvInRefIdeal.τ).loc Cert.OddRwkvInRefIdeal.main_arg1) = m' ((c.tc : Thread Cert.OddRwkvInRefIdeal.nD Cert.OddRwkvInRefIdeal.τ).loc Cert.OddRwkvInRefIdeal.main_arg1))

def preserves_OddSsmIn_OddSsmInIdeal : Prop :=
  True

def algebraic_OddSsmInIdeal_OddSsmInRefIdeal [hOddSsmInIdeal : Cert.OddSsmInIdeal.Facts] [hOddSsmInRefIdeal : Cert.OddSsmInRefIdeal.Facts] : Prop :=
  ∀ (m : (ℓ : Loc Cert.OddSsmInIdeal.nD Cert.OddSsmInIdeal.τ Cert.OddSsmInIdeal.sig) → Buf (Elt Ideal) ℓ) (g : Dev Cert.OddSsmInIdeal.nD → PrngReg)
    (m' : (ℓ : Loc Cert.OddSsmInRefIdeal.nD Cert.OddSsmInRefIdeal.τ Cert.OddSsmInRefIdeal.sig) → Buf (Elt Ideal) ℓ) (g' : Dev Cert.OddSsmInRefIdeal.nD → PrngReg), Pre_OddSsmInIdeal m →
    (∀ c : Dev Cert.OddSsmInIdeal.nD,
      m' ((c.tc : Thread Cert.OddSsmInRefIdeal.nD Cert.OddSsmInRefIdeal.τ).loc Cert.OddSsmInRefIdeal.main_arg0) = m ((c.tc : Thread Cert.OddSsmInIdeal.nD Cert.OddSsmInIdeal.τ).loc Cert.OddSsmInIdeal.main_arg0)
      ∧ m' ((c.tc : Thread Cert.OddSsmInRefIdeal.nD Cert.OddSsmInRefIdeal.τ).loc Cert.OddSsmInRefIdeal.main_arg1) = m ((c.tc : Thread Cert.OddSsmInIdeal.nD Cert.OddSsmInIdeal.τ).loc Cert.OddSsmInIdeal.main_arg1)) →
    ∃ (v0 : (c : Dev Cert.OddSsmInIdeal.nD) → Buf (Elt Ideal) ((c.tc : Thread Cert.OddSsmInIdeal.nD Cert.OddSsmInIdeal.τ).loc Cert.OddSsmInIdeal.main_v2)),
      θ_run (Cert.OddSsmInIdeal.defs (F := Ideal)) (onTc (τ := Cert.OddSsmInIdeal.τ) (Cert.OddSsmInIdeal.main (F := Ideal))) ⟨m, fun _ => 0, g⟩ (fun r => ∀ c : Dev Cert.OddSsmInIdeal.nD,
          r.2.mem ((c.tc : Thread Cert.OddSsmInIdeal.nD Cert.OddSsmInIdeal.τ).loc Cert.OddSsmInIdeal.main_v2) = v0 c
          ∧ r.2.mem ((c.tc : Thread Cert.OddSsmInIdeal.nD Cert.OddSsmInIdeal.τ).loc Cert.OddSsmInIdeal.main_arg0) = m ((c.tc : Thread Cert.OddSsmInIdeal.nD Cert.OddSsmInIdeal.τ).loc Cert.OddSsmInIdeal.main_arg0)
          ∧ r.2.mem ((c.tc : Thread Cert.OddSsmInIdeal.nD Cert.OddSsmInIdeal.τ).loc Cert.OddSsmInIdeal.main_arg1) = m ((c.tc : Thread Cert.OddSsmInIdeal.nD Cert.OddSsmInIdeal.τ).loc Cert.OddSsmInIdeal.main_arg1))
      ∧ θ_run (Cert.OddSsmInRefIdeal.defs (F := Ideal)) (onTc (τ := Cert.OddSsmInRefIdeal.τ) (Cert.OddSsmInRefIdeal.main (F := Ideal))) ⟨m', fun _ => 0, g'⟩ (fun r => ∀ c : Dev Cert.OddSsmInRefIdeal.nD,
          r.2.mem ((c.tc : Thread Cert.OddSsmInRefIdeal.nD Cert.OddSsmInRefIdeal.τ).loc Cert.OddSsmInRefIdeal.main_v2) = v0 c
          ∧ r.2.mem ((c.tc : Thread Cert.OddSsmInRefIdeal.nD Cert.OddSsmInRefIdeal.τ).loc Cert.OddSsmInRefIdeal.main_arg0) = m' ((c.tc : Thread Cert.OddSsmInRefIdeal.nD Cert.OddSsmInRefIdeal.τ).loc Cert.OddSsmInRefIdeal.main_arg0)
          ∧ r.2.mem ((c.tc : Thread Cert.OddSsmInRefIdeal.nD Cert.OddSsmInRefIdeal.τ).loc Cert.OddSsmInRefIdeal.main_arg1) = m' ((c.tc : Thread Cert.OddSsmInRefIdeal.nD Cert.OddSsmInRefIdeal.τ).loc Cert.OddSsmInRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v11) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Down_DownIdeal : Prop :=
  True

def algebraic_DownIdeal_DownRefIdeal_pre_routed [hDownIdeal : Cert.DownIdeal.Facts] [hDownRefIdeal : Cert.DownRefIdeal.Facts] [hPre_routed : Cert.Pre_routed.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_routed m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v14) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hKernel : Cert.Kernel.Facts) (hKernelIdeal : Cert.KernelIdeal.Facts) (hReferenceIdeal : Cert.ReferenceIdeal.Facts) (hEvenIn : Cert.EvenIn.Facts) (hEvenInIdeal : Cert.EvenInIdeal.Facts) (hEvenInRefIdeal : Cert.EvenInRefIdeal.Facts) (hOddRwkvIn : Cert.OddRwkvIn.Facts) (hOddRwkvInIdeal : Cert.OddRwkvInIdeal.Facts) (hOddRwkvInRefIdeal : Cert.OddRwkvInRefIdeal.Facts) (hOddSsmIn : Cert.OddSsmIn.Facts) (hOddSsmInIdeal : Cert.OddSsmInIdeal.Facts) (hOddSsmInRefIdeal : Cert.OddSsmInRefIdeal.Facts) (hGlu : Cert.Glu.Facts) (hGluIdeal : Cert.GluIdeal.Facts) (hGluRefIdeal : Cert.GluRefIdeal.Facts) (hOutProj : Cert.OutProj.Facts) (hOutProjIdeal : Cert.OutProjIdeal.Facts) (hOutProjRefIdeal : Cert.OutProjRefIdeal.Facts) (hDown : Cert.Down.Facts) (hDownIdeal : Cert.DownIdeal.Facts) (hDownRefIdeal : Cert.DownRefIdeal.Facts) (hPre_finite : Cert.Pre_finite.Facts) (hPre_in_range : Cert.Pre_in_range.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddRwkvIn (hOddRwkvIn := hOddRwkvIn)
    ∧ quiescent_OddRwkvInIdeal (hOddRwkvInIdeal := hOddRwkvInIdeal)
    ∧ quiescent_OddRwkvInRefIdeal (hOddRwkvInRefIdeal := hOddRwkvInRefIdeal)
    ∧ quiescent_OddSsmIn (hOddSsmIn := hOddSsmIn)
    ∧ quiescent_OddSsmInIdeal (hOddSsmInIdeal := hOddSsmInIdeal)
    ∧ quiescent_OddSsmInRefIdeal (hOddSsmInRefIdeal := hOddSsmInRefIdeal)
    ∧ quiescent_Glu (hGlu := hGlu)
    ∧ quiescent_GluIdeal (hGluIdeal := hGluIdeal)
    ∧ quiescent_GluRefIdeal (hGluRefIdeal := hGluRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Down (hDown := hDown) (hPre_in_range := hPre_in_range)
    ∧ quiescent_DownIdeal (hDownIdeal := hDownIdeal) (hPre_in_range := hPre_in_range)
    ∧ quiescent_DownIdeal_pre_routed (hDownIdeal := hDownIdeal) (hPre_routed := hPre_routed)
    ∧ quiescent_DownRefIdeal (hDownRefIdeal := hDownRefIdeal)
    ∧ quiescent_DownRefIdeal_pre_routed (hDownRefIdeal := hDownRefIdeal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_EvenIn_EvenInIdeal
    ∧ algebraic_EvenInIdeal_EvenInRefIdeal (hEvenInIdeal := hEvenInIdeal) (hEvenInRefIdeal := hEvenInRefIdeal)
    ∧ preserves_OddRwkvIn_OddRwkvInIdeal
    ∧ algebraic_OddRwkvInIdeal_OddRwkvInRefIdeal (hOddRwkvInIdeal := hOddRwkvInIdeal) (hOddRwkvInRefIdeal := hOddRwkvInRefIdeal)
    ∧ preserves_OddSsmIn_OddSsmInIdeal
    ∧ algebraic_OddSsmInIdeal_OddSsmInRefIdeal (hOddSsmInIdeal := hOddSsmInIdeal) (hOddSsmInRefIdeal := hOddSsmInRefIdeal)
    ∧ preserves_Glu_GluIdeal
    ∧ algebraic_GluIdeal_GluRefIdeal (hGluIdeal := hGluIdeal) (hGluRefIdeal := hGluRefIdeal)
    ∧ preserves_OutProj_OutProjIdeal
    ∧ algebraic_OutProjIdeal_OutProjRefIdeal (hOutProjIdeal := hOutProjIdeal) (hOutProjRefIdeal := hOutProjRefIdeal)
    ∧ preserves_Down_DownIdeal
    ∧ algebraic_DownIdeal_DownRefIdeal_pre_routed (hDownIdeal := hDownIdeal) (hDownRefIdeal := hDownRefIdeal) (hPre_routed := hPre_routed)
-- ==== Pre_finite.lean ====
abbrev S8192x2048 : Shape := ⟨2, ![8192, 2048]⟩
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S128x16 : Shape := ⟨2, ![128, 16]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x64x16 : S_.BroadcastsInDim S128x64x16 (![] : Fin 0 → Fin S128x64x16.rank)
  reducesTo_S128x64x16_S_d0_1_2 : S128x64x16.ReducesTo [0, 1, 2] S_
  bcast_S_S128x16x64 : S_.BroadcastsInDim S128x16x64 (![] : Fin 0 → Fin S128x16x64.rank)
  reducesTo_S128x16x64_S_d0_1_2 : S128x16x64.ReducesTo [0, 1, 2] S_
  bcast_S_S128x16 : S_.BroadcastsInDim S128x16 (![] : Fin 0 → Fin S128x16.rank)
  reducesTo_S128x16_S_d0_1 : S128x16.ReducesTo [0, 1] S_

variable [Facts]

def fn_part2 {F : FTy → Type} [FloatOps F] (main_arg7 : FVec F S128x16x64 .f32) (main_arg8 : FVec F S128x16 .f32) (main_v33 : IVec S_ 1) : IVec S_ 1 :=
  let main_v34 : FVec F S128x16x64 .f32 := Host.absf main_arg7
  let main_cst_12 : FVec F S_ .f32 := constant S_ .f32 0x7F800000#32
  let main_v35 : FVec F S128x16x64 .f32 := broadcastInDim S128x16x64 ![] bcast_S_S128x16x64 main_cst_12
  let main_v36 : IVec S128x16x64 1 := cmpf .olt main_v34 main_v35
  let main_c_13 : IVec S_ 1 := constantI S_ 1 1#1
  let main_v37 : IVec S_ 1 := (fun x v => Host.reduce IntOp.andi x v reducesTo_S128x16x64_S_d0_1_2 h_S_) main_v36 main_c_13
  let main_v38 : IVec S_ 1 := andi main_v33 main_v37
  let main_v39 : FVec F S128x16 .f32 := Host.absf main_arg8
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  main_v43

def fn_part1 {F : FTy → Type} [FloatOps F] (main_arg4 : FVec F S128x64x16 .f32) (main_arg5 : FVec F S128x64x16 .f32) (main_arg6 : FVec F S128x16x64 .f32) (main_arg7 : FVec F S128x16x64 .f32) (main_arg8 : FVec F S128x16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64x16 .f32 := Host.absf main_arg4
  let main_cst_6 : FVec F S_ .f32 := constant S_ .f32 0x7F800000#32
  let main_v20 : FVec F S128x64x16 .f32 := broadcastInDim S128x64x16 ![] bcast_S_S128x64x16 main_cst_6
  let main_v21 : IVec S128x64x16 1 := cmpf .olt main_v19 main_v20
  let main_c_7 : IVec S_ 1 := constantI S_ 1 1#1
  let main_v22 : IVec S_ 1 := (fun x v => Host.reduce IntOp.andi x v reducesTo_S128x64x16_S_d0_1_2 h_S_) main_v21 main_c_7
  let main_v23 : IVec S_ 1 := andi main_v18 main_v22
  let main_v24 : FVec F S128x64x16 .f32 := Host.absf main_arg5
  let main_cst_8 : FVec F S_ .f32 := constant S_ .f32 0x7F800000#32
  let main_v25 : FVec F S128x64x16 .f32 := broadcastInDim S128x64x16 ![] bcast_S_S128x64x16 main_cst_8
  let main_v26 : IVec S128x64x16 1 := cmpf .olt main_v24 main_v25
  let main_c_9 : IVec S_ 1 := constantI S_ 1 1#1
  let main_v27 : IVec S_ 1 := (fun x v => Host.reduce IntOp.andi x v reducesTo_S128x64x16_S_d0_1_2 h_S_) main_v26 main_c_9
  let main_v28 : IVec S_ 1 := andi main_v23 main_v27
  let main_v29 : FVec F S128x16x64 .f32 := Host.absf main_arg6
  let main_cst_10 : FVec F S_ .f32 := constant S_ .f32 0x7F800000#32
  let main_v30 : FVec F S128x16x64 .f32 := broadcastInDim S128x16x64 ![] bcast_S_S128x16x64 main_cst_10
  let main_v31 : IVec S128x16x64 1 := cmpf .olt main_v29 main_v30
  let main_c_11 : IVec S_ 1 := constantI S_ 1 1#1
  let main_v32 : IVec S_ 1 := (fun x v => Host.reduce IntOp.andi x v reducesTo_S128x16x64_S_d0_1_2 h_S_) main_v31 main_c_11
  let main_v33 : IVec S_ 1 := andi main_v28 main_v32
  fn_part2 (F := F) main_arg7 main_arg8 main_v33

def fn {F : FTy → Type} [FloatOps F] (main_arg0 : FVec F S8192x2048 .f32) (main_arg1 : FVec F S128x64 .f32) (main_arg2 : FVec F S128x64 .f32) (main_arg3 : FVec F S128 .f32) (main_arg4 : FVec F S128x64x16 .f32) (main_arg5 : FVec F S128x64x16 .f32) (main_arg6 : FVec F S128x16x64 .f32) (main_arg7 : FVec F S128x16x64 .f32) (main_arg8 : FVec F S128x16 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Pre_in_range.lean ====
abbrev S24576x1024 : Shape := ⟨2, ![24576, 1024]⟩
abbrev S96 : Shape := ⟨1, ![96]⟩
abbrev S2x32x1024x4096 : Shape := ⟨4, ![2, 32, 1024, 4096]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel

variable [Facts]

def fn {F : FTy → Type} [FloatOps F] (main_arg0 : FVec F S24576x1024 .bf16) (main_arg1 : IVec S96 32) (main_arg2 : IVec S96 32) (main_arg3 : IVec S96 32) (main_arg4 : FVec F S2x32x1024x4096 .f32) : IVec S_ 1 :=
  let main_c : IVec S_ 32 := constantI S_ 32 0#32
  let main_v0 : IVec S96 32 := broadcastInDim S96 ![] bcast_S_S96 main_c
  let main_v1 : IVec S96 1 := cmpi .sge main_arg1 main_v0
  let main_c_0 : IVec S_ 32 := constantI S_ 32 31#32
  let main_v2 : IVec S96 32 := broadcastInDim S96 ![] bcast_S_S96 main_c_0
  let main_v3 : IVec S96 1 := cmpi .sle main_arg1 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  main_v5
-- ==== Pre_routed.lean ====
abbrev S24576x1024 : Shape := ⟨2, ![24576, 1024]⟩
abbrev S96 : Shape := ⟨1, ![96]⟩
abbrev S2x32x1024x4096 : Shape := ⟨4, ![2, 32, 1024, 4096]⟩
abbrev S256 : Shape := ⟨1, ![256]⟩
abbrev S1x256x1 : Shape := ⟨3, ![1, 256, 1]⟩
abbrev S96x1x1 : Shape := ⟨3, ![96, 1, 1]⟩
abbrev S_ : Shape := ⟨0, ![]⟩
abbrev S96x256x1 : Shape := ⟨3, ![96, 256, 1]⟩
abbrev S1 : Shape := ⟨1, ![1]⟩
abbrev S95 : Shape := ⟨1, ![95]⟩
abbrev S96x256x1024 : Shape := ⟨3, ![96, 256, 1024]⟩

class Facts : Prop where
  bcast_S256_S1x256x1_1 : S256.BroadcastsInDim S1x256x1 (![1] : Fin 1 → Fin S1x256x1.rank)
  bcast_S96_S96x1x1_0 : S96.BroadcastsInDim S96x1x1 (![0] : Fin 1 → Fin S96x1x1.rank)
  bcast_S_S96x1x1 : S_.BroadcastsInDim S96x1x1 (![] : Fin 0 → Fin S96x1x1.rank)
  bcast_S_S1x256x1 : S_.BroadcastsInDim S1x256x1 (![] : Fin 0 → Fin S1x256x1.rank)
  bcast_S96x1x1_S96x256x1_0_1_2 : S96x1x1.BroadcastsInDim S96x256x1 (![0, 1, 2] : Fin 3 → Fin S96x256x1.rank)
  bcast_S1x256x1_S96x256x1_0_1_2 : S1x256x1.BroadcastsInDim S96x256x1 (![0, 1, 2] : Fin 3 → Fin S96x256x1.rank)
  bcast_S_S96 : S_.BroadcastsInDim S96 (![] : Fin 0 → Fin S96.rank)
  reducesTo_S96_S_d0 : S96.ReducesTo [0] S_
  h_S_ : 0 < S_.numel
  slices_S96_S1_0 : S96.Slices ![0] S1
  shapeCasts_S1_S_ : S1.ShapeCasts S_
  slices_S96_S95_1 : S96.Slices ![1] S95
  bcast_S_S95 : S_.BroadcastsInDim S95 (![] : Fin 0 → Fin S95.rank)
  slices_S96_S95_0 : S96.Slices ![0] S95
  reducesTo_S95_S_d0 : S95.ReducesTo [0] S_
  shapeCasts_S24576x1024_S96x256x1024 : S24576x1024.ShapeCasts S96x256x1024
  bcast_S_S96x256x1024 : S_.BroadcastsInDim S96x256x1024 (![] : Fin 0 → Fin S96x256x1024.rank)
  bcast_S96x256x1_S96x256x1024_0_1_2 : S96x256x1.BroadcastsInDim S96x256x1024 (![0, 1, 2] : Fin 3 → Fin S96x256x1024.rank)
  reducesTo_S96x256x1024_S_d0_1_2 : S96x256x1024.ReducesTo [0, 1, 2] S_

variable [Facts]

def fn_part2 {F : FTy → Type} [FloatOps F] (main_v19 : IVec S_ 1) (main_v22 : IVec S_ 1) (main_v25 : IVec S_ 1) (main_v33 : IVec S_ 1) (main_v34 : IVec S96x256x1 1) (main_v35 : FVec F S96x256x1024 .bf16) (main_cst : FVec F S_ .bf16) : IVec S_ 1 × IVec S_ 1 × IVec S_ 1 × IVec S_ 1 × IVec S_ 1 :=
  let main_v36 : FVec F S96x256x1024 .bf16 := broadcastInDim S96x256x1024 ![] bcast_S_S96x256x1024 main_cst
  let main_v37 : IVec S96x256x1024 1 := cmpf .oeq main_v35 main_v36
  let main_v38 : IVec S96x256x1024 1 := broadcastInDim S96x256x1024 ![0, 1, 2] bcast_S96x256x1_S96x256x1024_0_1_2 main_v34
  let main_v39 : IVec S96x256x1024 1 := ori main_v38 main_v37
  let main_c_10 : IVec S_ 1 := constantI S_ 1 1#1
  let main_v40 : IVec S_ 1 := (fun x v => Host.reduce IntOp.andi x v reducesTo_S96x256x1024_S_d0_1_2 h_S_) main_v39 main_c_10
  (main_v19, main_v22, main_v25, main_v33, main_v40)

def fn_part1 {F : FTy → Type} [FloatOps F] (main_arg0 : FVec F S24576x1024 .bf16) (main_arg1 : IVec S96 32) (main_arg2 : IVec S96 32) (main_arg3 : IVec S96 32) (main_v13 : IVec S96x256x1 1) (main_v18 : IVec S96 1) : IVec S_ 1 × IVec S_ 1 × IVec S_ 1 × IVec S_ 1 × IVec S_ 1 :=
  let main_c_4 : IVec S_ 1 := constantI S_ 1 1#1
  let main_v19 : IVec S_ 1 := (fun x v => Host.reduce IntOp.andi x v reducesTo_S96_S_d0 h_S_) main_v18 main_c_4
  let main_c_5 : IVec S_ 32 := constantI S_ 32 0#32
  let main_v20 : IVec S96 32 := broadcastInDim S96 ![] bcast_S_S96 main_c_5
  let main_v21 : IVec S96 1 := cmpi .sge main_arg2 main_v20
  let main_c_6 : IVec S_ 1 := constantI S_ 1 1#1
  let main_v22 : IVec S_ 1 := (fun x v => Host.reduce IntOp.andi x v reducesTo_S96_S_d0 h_S_) main_v21 main_c_6
  let main_v23 : IVec S1 32 := (extractStridedSlice S1 ![0] · slices_S96_S1_0) main_arg3
  let main_v24 : IVec S_ 32 := shapeCast S_ main_v23 shapeCasts_S1_S_
  let main_c_7 : IVec S_ 32 := constantI S_ 32 1#32
  let main_v25 : IVec S_ 1 := cmpi .eq main_v24 main_c_7
  let main_v26 : IVec S95 32 := (extractStridedSlice S95 ![1] · slices_S96_S95_1) main_arg3
  let main_c_8 : IVec S_ 32 := constantI S_ 32 1#32
  let main_v27 : IVec S95 32 := broadcastInDim S95 ![] bcast_S_S95 main_c_8
  let main_v28 : IVec S95 1 := cmpi .eq main_v26 main_v27
  let main_v29 : IVec S95 32 := (extractStridedSlice S95 ![1] · slices_S96_S95_1) main_arg1
  let main_v30 : IVec S95 32 := (extractStridedSlice S95 ![0] · slices_S96_S95_0) main_arg1
  let main_v31 : IVec S95 1 := cmpi .eq main_v29 main_v30
  let main_v32 : IVec S95 1 := ori main_v28 main_v31
  let main_c_9 : IVec S_ 1 := constantI S_ 1 1#1
  let main_v33 : IVec S_ 1 := (fun x v => Host.reduce IntOp.andi x v reducesTo_S95_S_d0 h_S_) main_v32 main_c_9
  let main_v34 : IVec S96x256x1 1 := noti main_v13
  let main_v35 : FVec F S96x256x1024 .bf16 := shapeCast S96x256x1024 main_arg0 shapeCasts_S24576x1024_S96x256x1024
  let main_cst : FVec F S_ .bf16 := constant S_ .bf16 0x0000#16
  fn_part2 (F := F) main_v19 main_v22 main_v25 main_v33 main_v34 main_v35 main_cst

def fn {F : FTy → Type} [FloatOps F] (main_arg0 : FVec F S24576x1024 .bf16) (main_arg1 : IVec S96 32) (main_arg2 : IVec S96 32) (main_arg3 : IVec S96 32) (main_arg4 : FVec F S2x32x1024x4096 .f32) : IVec S_ 1 × IVec S_ 1 × IVec S_ 1 × IVec S_ 1 × IVec S_ 1 :=
  let main_v0 : IVec S256 32 := iotaInDim S256 32 0
  let main_v1 : IVec S1x256x1 32 := broadcastInDim S1x256x1 ![1] bcast_S256_S1x256x1_1 main_v0
  let main_v2 : IVec S96x1x1 32 := broadcastInDim S96x1x1 ![0] bcast_S96_S96x1x1_0 main_arg2
  let main_c : IVec S_ 32 := constantI S_ 32 128#32
  let main_v3 : IVec S96x1x1 32 := broadcastInDim S96x1x1 ![] bcast_S_S96x1x1 main_c
  let main_v4 : IVec S96x1x1 1 := cmpi .sle main_v2 main_v3
  let main_c_0 : IVec S_ 32 := constantI S_ 32 128#32
  let main_v5 : IVec S1x256x1 32 := broadcastInDim S1x256x1 ![] bcast_S_S1x256x1 main_c_0
  let main_v6 : IVec S1x256x1 1 := cmpi .sge main_v1 main_v5
  let main_v7 : IVec S96x256x1 1 := broadcastInDim S96x256x1 ![0, 1, 2] bcast_S96x1x1_S96x256x1_0_1_2 main_v4
  let main_v8 : IVec S96x256x1 1 := broadcastInDim S96x256x1 ![0, 1, 2] bcast_S1x256x1_S96x256x1_0_1_2 main_v6
  let main_v9 : IVec S96x256x1 1 := andi main_v7 main_v8
  let main_c_1 : IVec S_ 32 := constantI S_ 32 0#32
  let main_v10 : IVec S96x1x1 32 := broadcastInDim S96x1x1 ![] bcast_S_S96x1x1 main_c_1
  let main_v11 : IVec S96x1x1 1 := cmpi .eq main_v2 main_v10
  let main_v12 : IVec S96x256x1 1 := broadcastInDim S96x256x1 ![0, 1, 2] bcast_S96x1x1_S96x256x1_0_1_2 main_v11
  let main_v13 : IVec S96x256x1 1 := ori main_v9 main_v12
  let main_c_2 : IVec S_ 32 := constantI S_ 32 0#32
  let main_v14 : IVec S96 32 := broadcastInDim S96 ![] bcast_S_S96 main_c_2
  let main_v15 : IVec S96 1 := cmpi .sge main_arg1 main_v14
  let main_c_3 : IVec S_ 32 := constantI S_ 32 31#32
  let main_v16 : IVec S96 32 := broadcastInDim S96 ![] bcast_S_S96 main_c_3
  let main_v17 : IVec S96 1 := cmpi .sle main_arg1 main_v16
  let main_v18 : IVec S96 1 := andi main_v15 main_v17
  fn_part1 (F := F) main_arg0 main_arg1 main_arg2 main_arg3 main_v13 main_v18
-- ==== Kernel.lean ====
abbrev S8192x2048 : Shape := ⟨2, ![8192, 2048]⟩
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S128x16 : Shape := ⟨2, ![128, 16]⟩
abbrev S2048 : Shape := ⟨1, ![2048]⟩
abbrev S_ : Shape := ⟨0, ![]⟩
abbrev S128x1 : Shape := ⟨2, ![128, 1]⟩
abbrev S128x64x1 : Shape := ⟨3, ![128, 64, 1]⟩
abbrev S8x8 : Shape := ⟨2, ![8, 8]⟩
abbrev S16x8x16x64 : Shape := ⟨4, ![16, 8, 16, 64]⟩
abbrev S16x8x16x1x64 : Shape := ⟨5, ![16, 8, 16, 1, 64]⟩
abbrev S1x8x1x8x1 : Shape := ⟨5, ![1, 8, 1, 8, 1]⟩
abbrev S16x8x16x8x64 : Shape := ⟨5, ![16, 8, 16, 8, 64]⟩
abbrev S16x128x512 : Shape := ⟨3, ![16, 128, 512]⟩
abbrev S16x128x1024 : Shape := ⟨3, ![16, 128, 1024]⟩
abbrev S16x8x64x16 : Shape := ⟨4, ![16, 8, 64, 16]⟩
abbrev S16x8x64x1x16 : Shape := ⟨5, ![16, 8, 64, 1, 16]⟩
abbrev S16x8x64x8x16 : Shape := ⟨5, ![16, 8, 64, 8, 16]⟩
abbrev S16x512x128 : Shape := ⟨3, ![16, 512, 128]⟩
abbrev S16x1024x128 : Shape := ⟨3, ![16, 1024, 128]⟩
abbrev S1x128x64 : Shape := ⟨3, ![1, 128, 64]⟩
abbrev S8x128x64 : Shape := ⟨3, ![8, 128, 64]⟩
abbrev S8x16x512 : Shape := ⟨3, ![8, 16, 512]⟩
abbrev S16x8x512 : Shape := ⟨3, ![16, 8, 512]⟩
abbrev S8 : Shape := ⟨1, ![8]⟩
abbrev S1x8x1 : Shape := ⟨3, ![1, 8, 1]⟩
abbrev S16x1x512 : Shape := ⟨3, ![16, 1, 512]⟩
abbrev S16x1x8x512 : Shape := ⟨4, ![16, 1, 8, 512]⟩
abbrev S16x8x8x512 : Shape := ⟨4, ![16, 8, 8, 512]⟩
abbrev S1x2048 : Shape := ⟨2, ![1, 2048]⟩
abbrev S1024x128 : Shape := ⟨2, ![1024, 128]⟩
abbrev S1x128x1024 : Shape := ⟨3, ![1, 128, 1024]⟩
abbrev S1x1024x128 : Shape := ⟨3, ![1, 1024, 128]⟩
abbrev S1x8x8x512 : Shape := ⟨4, ![1, 8, 8, 512]⟩
abbrev S1x128 : Shape := ⟨2, ![1, 128]⟩
abbrev S1024x1024 : Shape := ⟨2, ![1024, 1024]⟩
abbrev S8x512 : Shape := ⟨2, ![8, 512]⟩
abbrev S128x1024 : Shape := ⟨2, ![128, 1024]⟩
abbrev S8x8x512 : Shape := ⟨3, ![8, 8, 512]⟩
abbrev S1x8x512 : Shape := ⟨3, ![1, 8, 512]⟩
abbrev S1x512 : Shape := ⟨2, ![1, 512]⟩

abbrev nBuf : Space → Nat
  | .hbm => 238
  | .vmem => 14
  | .smem => 0
  | _ => 0

abbrev hbmTy0_0 (i : Nat) : BufTy := match i % 128 with
  | 0 => ⟨S8192x2048, .f32⟩
  | 1 => ⟨S128x64, .f32⟩
  | 2 => ⟨S128x64, .f32⟩
  | 3 => ⟨S128, .f32⟩
  | 4 => ⟨S128x64x16, .f32⟩
  | 5 => ⟨S128x64x16, .f32⟩
  | 6 => ⟨S128x16x64, .f32⟩
  | 7 => ⟨S128x16x64, .f32⟩
  | 8 => ⟨S128x16, .f32⟩
  | 9 => ⟨S2048, .f32⟩
  | 10 => ⟨S_, .f32⟩
  | 11 => ⟨S128x64, .f32⟩
  | 12 => ⟨S128x64, .f32⟩
  | 13 => ⟨S128, .f32⟩
  | 14 => ⟨S128x1, .f32⟩
  | 15 => ⟨S128x64, .f32⟩
  | 16 => ⟨S128x64, .f32⟩
  | 17 => ⟨S128x64, .f32⟩
  | 18 => ⟨S128x64, .f32⟩
  | 19 => ⟨S128x64, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S_, .f32⟩
  | 30 => ⟨S128x64, .f32⟩
  | 31 => ⟨S128x64, .f32⟩
  | 32 => ⟨S128x64, .f32⟩
  | 33 => ⟨S128x64, .f32⟩
  | 34 => ⟨S128x64, .f32⟩
  | 35 => ⟨S128x64, .f32⟩
  | 36 => ⟨S128x64, .f32⟩
  | 37 => ⟨S_, .f32⟩
  | 38 => ⟨S128x64, .f32⟩
  | 39 => ⟨S128x64, .f32⟩
  | 40 => ⟨S128x64, .f32⟩
  | 41 => ⟨S128x64, .f32⟩
  | 42 => ⟨S128x64, .f32⟩
  | 43 => ⟨S128x64x1, .f32⟩
  | 44 => ⟨S128x64x16, .f32⟩
  | 45 => ⟨S128x64x16, .f32⟩
  | 46 => ⟨S128x64x1, .f32⟩
  | 47 => ⟨S128x64x16, .f32⟩
  | 48 => ⟨S128x64x16, .f32⟩
  | 49 => ⟨S128x64x16, .f32⟩
  | 50 => ⟨S128x64x1, .f32⟩
  | 51 => ⟨S128x64x16, .f32⟩
  | 52 => ⟨S128x64x16, .f32⟩
  | 53 => ⟨S128x64x1, .f32⟩
  | 54 => ⟨S128x64x16, .f32⟩
  | 55 => ⟨S128x64x16, .f32⟩
  | 56 => ⟨S128x64x16, .f32⟩
  | 57 => ⟨S8x8, .i32⟩
  | 58 => ⟨S8x8, .i32⟩
  | 59 => ⟨S_, .i32⟩
  | 60 => ⟨S8x8, .i32⟩
  | 61 => ⟨S8x8, .i32⟩
  | 62 => ⟨S8x8, .i1⟩
  | 63 => ⟨S8x8, .f32⟩
  | 64 => ⟨S128x16x64, .f32⟩
  | 65 => ⟨S16x8x16x64, .f32⟩
  | 66 => ⟨S16x8x16x1x64, .f32⟩
  | 67 => ⟨S1x8x1x8x1, .f32⟩
  | 68 => ⟨S16x8x16x8x64, .f32⟩
  | 69 => ⟨S16x8x16x8x64, .f32⟩
  | 70 => ⟨S16x8x16x8x64, .f32⟩
  | 71 => ⟨S16x128x512, .f32⟩
  | 72 => ⟨S128x16x64, .f32⟩
  | 73 => ⟨S16x8x16x64, .f32⟩
  | 74 => ⟨S16x8x16x1x64, .f32⟩
  | 75 => ⟨S1x8x1x8x1, .f32⟩
  | 76 => ⟨S16x8x16x8x64, .f32⟩
  | 77 => ⟨S16x8x16x8x64, .f32⟩
  | 78 => ⟨S16x8x16x8x64, .f32⟩
  | 79 => ⟨S16x128x512, .f32⟩
  | 80 => ⟨S16x128x1024, .f32⟩
  | 81 => ⟨S16x128x1024, .bf16⟩
  | 82 => ⟨S128x64x16, .f32⟩
  | 83 => ⟨S16x8x64x16, .f32⟩
  | 84 => ⟨S16x8x64x1x16, .f32⟩
  | 85 => ⟨S1x8x1x8x1, .f32⟩
  | 86 => ⟨S16x8x64x8x16, .f32⟩
  | 87 => ⟨S16x8x64x8x16, .f32⟩
  | 88 => ⟨S16x8x64x8x16, .f32⟩
  | 89 => ⟨S16x512x128, .f32⟩
  | 90 => ⟨S128x64x16, .f32⟩
  | 91 => ⟨S16x8x64x16, .f32⟩
  | 92 => ⟨S16x8x64x1x16, .f32⟩
  | 93 => ⟨S1x8x1x8x1, .f32⟩
  | 94 => ⟨S16x8x64x8x16, .f32⟩
  | 95 => ⟨S16x8x64x8x16, .f32⟩
  | 96 => ⟨S16x8x64x8x16, .f32⟩
  | 97 => ⟨S16x512x128, .f32⟩
  | 98 => ⟨S16x512x128, .f32⟩
  | 99 => ⟨S16x1024x128, .f32⟩
  | 100 => ⟨S16x1024x128, .bf16⟩
  | 101 => ⟨S128x64, .f32⟩
  | 102 => ⟨S128x64, .f32⟩
  | 103 => ⟨S128x64, .f32⟩
  | 104 => ⟨S128x64, .f32⟩
  | 105 => ⟨S128x64, .f32⟩
  | 106 => ⟨S128x64, .f32⟩
  | 107 => ⟨S128x64, .f32⟩
  | 108 => ⟨S128x64, .f32⟩
  | 109 => ⟨S128x64, .f32⟩
  | 110 => ⟨S128x64, .f32⟩
  | 111 => ⟨S128x64, .f32⟩
  | 112 => ⟨S128x64, .f32⟩
  | 113 => ⟨S128x64, .f32⟩
  | 114 => ⟨S128x64, .f32⟩
  | 115 => ⟨S128x64, .f32⟩
  | 116 => ⟨S128x64, .f32⟩
  | 117 => ⟨S128x64, .f32⟩
  | 118 => ⟨S128x64, .f32⟩
  | 119 => ⟨S128x64, .f32⟩
  | 120 => ⟨S128x64, .f32⟩
  | 121 => ⟨S128x64, .f32⟩
  | 122 => ⟨S128x64, .f32⟩
  | 123 => ⟨S128x64, .f32⟩
  | 124 => ⟨S128x64, .f32⟩
  | 125 => ⟨S128x64, .f32⟩
  | 126 => ⟨S128x64, .f32⟩
  | 127 => ⟨S128x64, .f32⟩
  | _ => ⟨S8192x2048, .f32⟩

abbrev hbmTy0_1 (i : Nat) : BufTy := match i % 128 with
  | 0 => ⟨S128x64, .f32⟩
  | 1 => ⟨S128x64, .f32⟩
  | 2 => ⟨S128x64, .f32⟩
  | 3 => ⟨S128x64, .f32⟩
  | 4 => ⟨S128x64, .f32⟩
  | 5 => ⟨S128x64, .f32⟩
  | 6 => ⟨S128x64, .f32⟩
  | 7 => ⟨S128x64, .f32⟩
  | 8 => ⟨S128x64, .f32⟩
  | 9 => ⟨S128x64, .f32⟩
  | 10 => ⟨S128x64, .f32⟩
  | 11 => ⟨S128x64, .f32⟩
  | 12 => ⟨S128x64, .f32⟩
  | 13 => ⟨S128x64, .f32⟩
  | 14 => ⟨S128x64, .f32⟩
  | 15 => ⟨S1x128x64, .f32⟩
  | 16 => ⟨S1x128x64, .f32⟩
  | 17 => ⟨S1x128x64, .f32⟩
  | 18 => ⟨S1x128x64, .f32⟩
  | 19 => ⟨S1x128x64, .f32⟩
  | 20 => ⟨S1x128x64, .f32⟩
  | 21 => ⟨S1x128x64, .f32⟩
  | 22 => ⟨S1x128x64, .f32⟩
  | 23 => ⟨S8x128x64, .f32⟩
  | 24 => ⟨S8x16x512, .f32⟩
  | 25 => ⟨S16x8x512, .f32⟩
  | 26 => ⟨S1x128x64, .f32⟩
  | 27 => ⟨S1x128x64, .f32⟩
  | 28 => ⟨S1x128x64, .f32⟩
  | 29 => ⟨S1x128x64, .f32⟩
  | 30 => ⟨S1x128x64, .f32⟩
  | 31 => ⟨S1x128x64, .f32⟩
  | 32 => ⟨S1x128x64, .f32⟩
  | 33 => ⟨S1x128x64, .f32⟩
  | 34 => ⟨S8x128x64, .f32⟩
  | 35 => ⟨S8x16x512, .f32⟩
  | 36 => ⟨S16x8x512, .f32⟩
  | 37 => ⟨S8, .i32⟩
  | 38 => ⟨S1x8x1, .i32⟩
  | 39 => ⟨S_, .i32⟩
  | 40 => ⟨S1x8x1, .i32⟩
  | 41 => ⟨S1x8x1, .i1⟩
  | 42 => ⟨S16x1x512, .f32⟩
  | 43 => ⟨S_, .f32⟩
  | 44 => ⟨S_, .f32⟩
  | 45 => ⟨S16x8x512, .i1⟩
  | 46 => ⟨S16x8x512, .f32⟩
  | 47 => ⟨S16x8x512, .f32⟩
  | 48 => ⟨S16x8x512, .f32⟩
  | 49 => ⟨S_, .i32⟩
  | 50 => ⟨S1x8x1, .i32⟩
  | 51 => ⟨S1x8x1, .i1⟩
  | 52 => ⟨S16x1x512, .f32⟩
  | 53 => ⟨S_, .f32⟩
  | 54 => ⟨S_, .f32⟩
  | 55 => ⟨S16x8x512, .i1⟩
  | 56 => ⟨S16x8x512, .f32⟩
  | 57 => ⟨S16x8x512, .f32⟩
  | 58 => ⟨S16x8x512, .f32⟩
  | 59 => ⟨S_, .i32⟩
  | 60 => ⟨S1x8x1, .i32⟩
  | 61 => ⟨S1x8x1, .i1⟩
  | 62 => ⟨S16x1x512, .f32⟩
  | 63 => ⟨S_, .f32⟩
  | 64 => ⟨S_, .f32⟩
  | 65 => ⟨S16x8x512, .i1⟩
  | 66 => ⟨S16x8x512, .f32⟩
  | 67 => ⟨S16x8x512, .f32⟩
  | 68 => ⟨S16x8x512, .f32⟩
  | 69 => ⟨S_, .i32⟩
  | 70 => ⟨S1x8x1, .i32⟩
  | 71 => ⟨S1x8x1, .i1⟩
  | 72 => ⟨S16x1x512, .f32⟩
  | 73 => ⟨S_, .f32⟩
  | 74 => ⟨S_, .f32⟩
  | 75 => ⟨S16x8x512, .i1⟩
  | 76 => ⟨S16x8x512, .f32⟩
  | 77 => ⟨S16x8x512, .f32⟩
  | 78 => ⟨S16x8x512, .f32⟩
  | 79 => ⟨S_, .i32⟩
  | 80 => ⟨S1x8x1, .i32⟩
  | 81 => ⟨S1x8x1, .i1⟩
  | 82 => ⟨S16x1x512, .f32⟩
  | 83 => ⟨S_, .f32⟩
  | 84 => ⟨S_, .f32⟩
  | 85 => ⟨S16x8x512, .i1⟩
  | 86 => ⟨S16x8x512, .f32⟩
  | 87 => ⟨S16x8x512, .f32⟩
  | 88 => ⟨S16x8x512, .f32⟩
  | 89 => ⟨S_, .i32⟩
  | 90 => ⟨S1x8x1, .i32⟩
  | 91 => ⟨S1x8x1, .i1⟩
  | 92 => ⟨S16x1x512, .f32⟩
  | 93 => ⟨S_, .f32⟩
  | 94 => ⟨S_, .f32⟩
  | 95 => ⟨S16x8x512, .i1⟩
  | 96 => ⟨S16x8x512, .f32⟩
  | 97 => ⟨S16x8x512, .f32⟩
  | 98 => ⟨S16x8x512, .f32⟩
  | 99 => ⟨S16x1x8x512, .f32⟩
  | 100 => ⟨S16x1x8x512, .f32⟩
  | 101 => ⟨S16x1x8x512, .f32⟩
  | 102 => ⟨S16x1x8x512, .f32⟩
  | 103 => ⟨S16x1x8x512, .f32⟩
  | 104 => ⟨S16x1x8x512, .f32⟩
  | 105 => ⟨S16x1x8x512, .f32⟩
  | 106 => ⟨S16x1x8x512, .f32⟩
  | 107 => ⟨S16x8x8x512, .f32⟩
  | 108 => ⟨S1x2048, .f32⟩
  | 109 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1x128x1024, .bf16⟩
  | .local _ .vmem, ⟨3, _⟩ => ⟨S1x128x1024, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x8x8x512, .f32⟩
  | .local _ .vmem, ⟨7, _⟩ => ⟨S1x8x8x512, .f32⟩
  | .local _ .vmem, ⟨8, _⟩ => ⟨S1x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x1024, .f32⟩
  | .local _ .vmem, ⟨13, _⟩ => ⟨S8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_c_2 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_cst_3 : Ref sig .tc := ⟨.hbm, 171, rfl⟩
abbrev main_call0_v0 : Ref sig .tc := ⟨.hbm, 172, rfl⟩
abbrev main_call0_v1 : Ref sig .tc := ⟨.hbm, 173, rfl⟩
abbrev main_call0_v2 : Ref sig .tc := ⟨.hbm, 174, rfl⟩
abbrev main_call0_v3 : Ref sig .tc := ⟨.hbm, 175, rfl⟩
abbrev main_v157 : Ref sig .tc := ⟨.hbm, 176, rfl⟩
abbrev main_c_4 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_cst_5 : Ref sig .tc := ⟨.hbm, 181, rfl⟩
abbrev main_call1_v0 : Ref sig .tc := ⟨.hbm, 182, rfl⟩
abbrev main_call1_v1 : Ref sig .tc := ⟨.hbm, 183, rfl⟩
abbrev main_call1_v2 : Ref sig .tc := ⟨.hbm, 184, rfl⟩
abbrev main_call1_v3 : Ref sig .tc := ⟨.hbm, 185, rfl⟩
abbrev main_v161 : Ref sig .tc := ⟨.hbm, 186, rfl⟩
abbrev main_c_6 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_cst_7 : Ref sig .tc := ⟨.hbm, 191, rfl⟩
abbrev main_call2_v0 : Ref sig .tc := ⟨.hbm, 192, rfl⟩
abbrev main_call2_v1 : Ref sig .tc := ⟨.hbm, 193, rfl⟩
abbrev main_call2_v2 : Ref sig .tc := ⟨.hbm, 194, rfl⟩
abbrev main_call2_v3 : Ref sig .tc := ⟨.hbm, 195, rfl⟩
abbrev main_v165 : Ref sig .tc := ⟨.hbm, 196, rfl⟩
abbrev main_c_8 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_cst_9 : Ref sig .tc := ⟨.hbm, 201, rfl⟩
abbrev main_call3_v0 : Ref sig .tc := ⟨.hbm, 202, rfl⟩
abbrev main_call3_v1 : Ref sig .tc := ⟨.hbm, 203, rfl⟩
abbrev main_call3_v2 : Ref sig .tc := ⟨.hbm, 204, rfl⟩
abbrev main_call3_v3 : Ref sig .tc := ⟨.hbm, 205, rfl⟩
abbrev main_v169 : Ref sig .tc := ⟨.hbm, 206, rfl⟩
abbrev main_c_10 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_11 : Ref sig .tc := ⟨.hbm, 211, rfl⟩
abbrev main_call4_v0 : Ref sig .tc := ⟨.hbm, 212, rfl⟩
abbrev main_call4_v1 : Ref sig .tc := ⟨.hbm, 213, rfl⟩
abbrev main_call4_v2 : Ref sig .tc := ⟨.hbm, 214, rfl⟩
abbrev main_call4_v3 : Ref sig .tc := ⟨.hbm, 215, rfl⟩
abbrev main_v173 : Ref sig .tc := ⟨.hbm, 216, rfl⟩
abbrev main_c_12 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_13 : Ref sig .tc := ⟨.hbm, 221, rfl⟩
abbrev main_call5_v0 : Ref sig .tc := ⟨.hbm, 222, rfl⟩
abbrev main_call5_v1 : Ref sig .tc := ⟨.hbm, 223, rfl⟩
abbrev main_call5_v2 : Ref sig .tc := ⟨.hbm, 224, rfl⟩
abbrev main_call5_v3 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_14 : BitVec 32 := 0#32
  let c128_i32 : BitVec 32 := 128#32
  let v31 : BitVec 32 := Scalar.addi c0_i32_14 c128_i32
  let c1_i32 : BitVec 32 := 1#32
  ⟨c0_i32_14, v31, c1_i32⟩
def k0_mult1 (k0_t1 : Fin k0_t1_loop.trips) : BitVec 32 :=
  let c0_i32_14 : BitVec 32 := 0#32
  let c1_i32 : BitVec 32 := 1#32
  let arg10 : BitVec 32 := Scf.iv c0_i32_14 c1_i32 k0_t1
  let c8_i32 : BitVec 32 := 8#32
  let v63 : BitVec 32 := Scalar.muli arg10 c8_i32
  v63
def k0_off1 (k0_t1 : Fin k0_t1_loop.trips) : Fin 2 → Nat :=
  let c0_i32_14 : BitVec 32 := 0#32
  let c1_i32 : BitVec 32 := 1#32
  let arg10 : BitVec 32 := Scf.iv c0_i32_14 c1_i32 k0_t1
  let c8_i32 : BitVec 32 := 8#32
  let v63 : BitVec 32 := Scalar.muli arg10 c8_i32
  let v64 : BitVec 32 := v63
  let v65 : Index := Scalar.indexCast v64
  let c0_34 : Index := 0#32
  ![v65.toNat, 0]
def k0_off2 (k0_t1 : Fin k0_t1_loop.trips) : Fin 2 → Nat :=
  let c0_i32_14 : BitVec 32 := 0#32
  let c1_i32 : BitVec 32 := 1#32
  let arg10 : BitVec 32 := Scf.iv c0_i32_14 c1_i32 k0_t1
  let c8_i32 : BitVec 32 := 8#32
  let v63 : BitVec 32 := Scalar.muli arg10 c8_i32
  let v64 : BitVec 32 := v63
  let v67 : Index := Scalar.indexCast v64
  let c512 : Index := 512#32
  ![v67.toNat, 512]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8192x2048 : Shape := ⟨2, ![8192, 2048]⟩
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S128x16 : Shape := ⟨2, ![128, 16]⟩
abbrev S8192x128x16 : Shape := ⟨3, ![8192, 128, 16]⟩
abbrev S_ : Shape := ⟨0, ![]⟩
abbrev S128x1 : Shape := ⟨2, ![128, 1]⟩
abbrev S128x64x1 : Shape := ⟨3, ![128, 64, 1]⟩
abbrev S128x64x8192 : Shape := ⟨3, ![128, 64, 8192]⟩
abbrev S8192x128x64 : Shape := ⟨3, ![8192, 128, 64]⟩
abbrev S1x128x64 : Shape := ⟨3, ![1, 128, 64]⟩
abbrev S128x16x8192 : Shape := ⟨3, ![128, 16, 8192]⟩
abbrev S1x128x16 : Shape := ⟨3, ![1, 128, 16]⟩

abbrev nBuf : Space → Nat
  | .hbm => 133
  | .vmem => 0
  | .smem => 0
  | _ => 0

abbrev hbmTy0_0 (i : Nat) : BufTy := match i % 128 with
  | 0 => ⟨S8192x2048, .f32⟩
  | 1 => ⟨S128x64, .f32⟩
  | 2 => ⟨S128x64, .f32⟩
  | 3 => ⟨S128, .f32⟩
  | 4 => ⟨S128x64x16, .f32⟩
  | 5 => ⟨S128x64x16, .f32⟩
  | 6 => ⟨S128x16x64, .f32⟩
  | 7 => ⟨S128x16x64, .f32⟩
  | 8 => ⟨S128x16, .f32⟩
  | 9 => ⟨S8192x128x16, .f32⟩
  | 10 => ⟨S_, .f32⟩
  | 11 => ⟨S128x64, .f32⟩
  | 12 => ⟨S128x64, .f32⟩
  | 13 => ⟨S128, .f32⟩
  | 14 => ⟨S128x1, .f32⟩
  | 15 => ⟨S128x64, .f32⟩
  | 16 => ⟨S128x64, .f32⟩
  | 17 => ⟨S128x64, .f32⟩
  | 18 => ⟨S128x64, .f32⟩
  | 19 => ⟨S128x64, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S_, .f32⟩
  | 30 => ⟨S128x64, .f32⟩
  | 31 => ⟨S128x64, .f32⟩
  | 32 => ⟨S128x64, .f32⟩
  | 33 => ⟨S128x64, .f32⟩
  | 34 => ⟨S128x64, .f32⟩
  | 35 => ⟨S128x64, .f32⟩
  | 36 => ⟨S128x64, .f32⟩
  | 37 => ⟨S_, .f32⟩
  | 38 => ⟨S128x64, .f32⟩
  | 39 => ⟨S128x64, .f32⟩
  | 40 => ⟨S128x64, .f32⟩
  | 41 => ⟨S128x64, .f32⟩
  | 42 => ⟨S128x64, .f32⟩
  | 43 => ⟨S128x64x1, .f32⟩
  | 44 => ⟨S128x64x16, .f32⟩
  | 45 => ⟨S128x64x16, .f32⟩
  | 46 => ⟨S128x64x1, .f32⟩
  | 47 => ⟨S128x64x16, .f32⟩
  | 48 => ⟨S128x64x16, .f32⟩
  | 49 => ⟨S128x64x16, .f32⟩
  | 50 => ⟨S128x64x1, .f32⟩
  | 51 => ⟨S128x64x16, .f32⟩
  | 52 => ⟨S128x64x16, .f32⟩
  | 53 => ⟨S128x64x1, .f32⟩
  | 54 => ⟨S128x64x16, .f32⟩
  | 55 => ⟨S128x64x16, .f32⟩
  | 56 => ⟨S128x64x16, .f32⟩
  | 57 => ⟨S128x64x8192, .f32⟩
  | 58 => ⟨S8192x128x64, .f32⟩
  | 59 => ⟨S128x64x8192, .f32⟩
  | 60 => ⟨S8192x128x64, .f32⟩
  | 61 => ⟨S_, .f32⟩
  | 62 => ⟨S128x64, .f32⟩
  | 63 => ⟨S_, .f32⟩
  | 64 => ⟨S8192x128x64, .f32⟩
  | 65 => ⟨S_, .f32⟩
  | 66 => ⟨S8192x128x64, .f32⟩
  | 67 => ⟨S_, .i32⟩
  | 68 => ⟨S8192x128x64, .f32⟩
  | 69 => ⟨S8192x128x64, .f32⟩
  | 70 => ⟨S128x64, .f32⟩
  | 71 => ⟨S128x64, .f32⟩
  | 72 => ⟨S_, .i32⟩
  | 73 => ⟨S128x64, .f32⟩
  | 74 => ⟨S128x64, .f32⟩
  | 75 => ⟨S8192x128x64, .f32⟩
  | 76 => ⟨S8192x128x64, .f32⟩
  | 77 => ⟨S_, .i32⟩
  | 78 => ⟨S_, .i1⟩
  | 79 => ⟨S_, .i32⟩
  | 80 => ⟨S_, .i32⟩
  | 81 => ⟨S1x128x64, .f32⟩
  | 82 => ⟨S128x64, .f32⟩
  | 83 => ⟨S_, .i32⟩
  | 84 => ⟨S_, .i32⟩
  | 85 => ⟨S1x128x64, .f32⟩
  | 86 => ⟨S128x64, .f32⟩
  | 87 => ⟨S128x64, .f32⟩
  | 88 => ⟨S128x64, .f32⟩
  | 89 => ⟨S128x64, .f32⟩
  | 90 => ⟨S128x64, .f32⟩
  | 91 => ⟨S128x64, .f32⟩
  | 92 => ⟨S128x64, .f32⟩
  | 93 => ⟨S128x64, .f32⟩
  | 94 => ⟨S128x64, .f32⟩
  | 95 => ⟨S1x128x64, .f32⟩
  | 96 => ⟨S_, .i32⟩
  | 97 => ⟨S_, .i32⟩
  | 98 => ⟨S8192x128x64, .f32⟩
  | 99 => ⟨S1x128x64, .f32⟩
  | 100 => ⟨S_, .i32⟩
  | 101 => ⟨S_, .i32⟩
  | 102 => ⟨S8192x128x64, .f32⟩
  | 103 => ⟨S_, .i32⟩
  | 104 => ⟨S_, .i32⟩
  | 105 => ⟨S128x16x8192, .f32⟩
  | 106 => ⟨S8192x128x16, .f32⟩
  | 107 => ⟨S128x16x8192, .f32⟩
  | 108 => ⟨S8192x128x16, .f32⟩
  | 109 => ⟨S8192x128x16, .f32⟩
  | 110 => ⟨S8192x128x16, .f32⟩
  | 111 => ⟨S1x128x16, .f32⟩
  | 112 => ⟨S8192x128x16, .f32⟩
  | 113 => ⟨S8192x128x16, .f32⟩
  | 114 => ⟨S8192x128x16, .f32⟩
  | 115 => ⟨S8192x2048, .f32⟩
  | 116 => ⟨S8192x2048, .f32⟩
  | 117 => ⟨S8192x2048, .f32⟩
  | 118 => ⟨S_, .f32⟩
  | 119 => ⟨S8192x2048, .f32⟩
  | 120 => ⟨S8192x2048, .f32⟩
  | 121 => ⟨S8192x2048, .f32⟩
  | 122 => ⟨S_, .f32⟩
  | 123 => ⟨S8192x2048, .f32⟩
  | 124 => ⟨S8192x2048, .f32⟩
  | 125 => ⟨S8192x2048, .f32⟩
  | 126 => ⟨S_, .f32⟩
  | 127 => ⟨S8192x2048, .f32⟩
  | _ => ⟨S8192x2048, .f32⟩

abbrev hbmTy0_1 (i : Nat) : BufTy := match i % 128 with
  | 0 => ⟨S8192x2048, .f32⟩
  | 1 => ⟨S_, .f32⟩
  | 2 => ⟨S8192x2048, .f32⟩
  | 3 => ⟨S8192x2048, .f32⟩
  | 4 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_2 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_c : Ref sig .tc := ⟨.hbm, 67, rfl⟩
abbrev main_v52_0 : Ref sig .tc := ⟨.hbm, 68, rfl⟩
abbrev main_v52_1 : Ref sig .tc := ⟨.hbm, 69, rfl⟩
abbrev main_v52_2 : Ref sig .tc := ⟨.hbm, 70, rfl⟩
abbrev main_v52_3 : Ref sig .tc := ⟨.hbm, 71, rfl⟩
abbrev main_v52_4 : Ref sig .tc := ⟨.hbm, 72, rfl⟩
abbrev main_v52_5 : Ref sig .tc := ⟨.hbm, 73, rfl⟩
abbrev main_v52_6 : Ref sig .tc := ⟨.hbm, 74, rfl⟩
abbrev main_v52_7 : Ref sig .tc := ⟨.hbm, 75, rfl⟩
abbrev main_v52_8 : Ref sig .tc := ⟨.hbm, 76, rfl⟩
abbrev main_while0c_c_17 : Ref sig .tc := ⟨.hbm, 77, rfl⟩
abbrev main_while0c_v77 : Ref sig .tc := ⟨.hbm, 78, rfl⟩
abbrev main_while0b_call0_c : Ref sig .tc := ⟨.hbm, 79, rfl⟩
abbrev main_while0b_call0_c_0 : Ref sig .tc := ⟨.hbm, 80, rfl⟩
abbrev main_while0b_call0_v0 : Ref sig .tc := ⟨.hbm, 81, rfl⟩
abbrev main_while0b_v77 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_call1_v0 : Ref sig .tc := ⟨.hbm, 85, rfl⟩
abbrev main_while0b_v78 : Ref sig .tc := ⟨.hbm, 86, rfl⟩
abbrev main_while0b_v79 : Ref sig .tc := ⟨.hbm, 87, rfl⟩
abbrev main_while0b_v80 : Ref sig .tc := ⟨.hbm, 88, rfl⟩
abbrev main_while0b_v81 : Ref sig .tc := ⟨.hbm, 89, rfl⟩
abbrev main_while0b_v82 : Ref sig .tc := ⟨.hbm, 90, rfl⟩
abbrev main_while0b_v83 : Ref sig .tc := ⟨.hbm, 91, rfl⟩
abbrev main_while0b_v84 : Ref sig .tc := ⟨.hbm, 92, rfl⟩
abbrev main_while0b_v85 : Ref sig .tc := ⟨.hbm, 93, rfl⟩
abbrev main_while0b_v86 : Ref sig .tc := ⟨.hbm, 94, rfl⟩
abbrev main_while0b_call2_v0 : Ref sig .tc := ⟨.hbm, 95, rfl⟩
abbrev main_while0b_call2_c : Ref sig .tc := ⟨.hbm, 96, rfl⟩
abbrev main_while0b_call2_c_0 : Ref sig .tc := ⟨.hbm, 97, rfl⟩
abbrev main_while0b_v87 : Ref sig .tc := ⟨.hbm, 98, rfl⟩
abbrev main_while0b_call3_v0 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_v88 : Ref sig .tc := ⟨.hbm, 102, rfl⟩
abbrev main_while0b_c_17 : Ref sig .tc := ⟨.hbm, 103, rfl⟩
abbrev main_while0b_v89 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_5 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_6 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_7 : Ref sig .tc := ⟨.hbm, 126, rfl⟩
abbrev main_v72 : Ref sig .tc := ⟨.hbm, 127, rfl⟩
abbrev main_v73 : Ref sig .tc := ⟨.hbm, 128, rfl⟩
abbrev main_cst_8 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩

abbrev nD : Nat := 1
abbrev τ : Topo := Topo.v7x

variable {F : FTy → Type} [FloatOps F]

abbrev main_while0_count : Scf.Loop 32 := ⟨0#32, 8192#32, 1#32⟩
-- ==== EvenIn.lean ====
abbrev S8192x4096 : Shape := ⟨2, ![8192, 4096]⟩
abbrev S4096x12320 : Shape := ⟨2, ![4096, 12320]⟩
abbrev S12320x4096 : Shape := ⟨2, ![12320, 4096]⟩
abbrev S8192x12288 : Shape := ⟨2, ![8192, 12288]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x12320, .f32⟩
  | .hbm, ⟨2, _⟩ => ⟨S12320x4096, .f32⟩
  | .hbm, ⟨3, _⟩ => ⟨S8192x12288, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInRefIdeal.lean ====
abbrev S8192x4096 : Shape := ⟨2, ![8192, 4096]⟩
abbrev S4096x12320 : Shape := ⟨2, ![4096, 12320]⟩
abbrev S8192x12320 : Shape := ⟨2, ![8192, 12320]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12320, .f32⟩
  | .hbm, ⟨2, _⟩ => ⟨S8192x4096, .f32⟩
  | .hbm, ⟨3, _⟩ => ⟨S8192x12320, .f32⟩
  | .hbm, ⟨4, _⟩ => ⟨S8192x12288, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddRwkvIn.lean ====
abbrev S8192x4096 : Shape := ⟨2, ![8192, 4096]⟩
abbrev S4096x8640 : Shape := ⟨2, ![4096, 8640]⟩
abbrev S8640x4096 : Shape := ⟨2, ![8640, 4096]⟩
abbrev S8192x6656 : Shape := ⟨2, ![8192, 6656]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x8640, .f32⟩
  | .hbm, ⟨2, _⟩ => ⟨S8640x4096, .f32⟩
  | .hbm, ⟨3, _⟩ => ⟨S8192x6656, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddRwkvInRefIdeal.lean ====
abbrev S8192x4096 : Shape := ⟨2, ![8192, 4096]⟩
abbrev S4096x8640 : Shape := ⟨2, ![4096, 8640]⟩
abbrev S8192x8640 : Shape := ⟨2, ![8192, 8640]⟩
abbrev S8192x6656 : Shape := ⟨2, ![8192, 6656]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8640, .f32⟩
  | .hbm, ⟨2, _⟩ => ⟨S8192x4096, .f32⟩
  | .hbm, ⟨3, _⟩ => ⟨S8192x8640, .f32⟩
  | .hbm, ⟨4, _⟩ => ⟨S8192x6656, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddSsmIn.lean ====
abbrev S8192x4096 : Shape := ⟨2, ![8192, 4096]⟩
abbrev S4096x8640 : Shape := ⟨2, ![4096, 8640]⟩
abbrev S8640x4096 : Shape := ⟨2, ![8640, 4096]⟩
abbrev S2048x4096 : Shape := ⟨2, ![2048, 4096]⟩
abbrev S8192x2048 : Shape := ⟨2, ![8192, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x8640, .f32⟩
  | .hbm, ⟨2, _⟩ => ⟨S8640x4096, .f32⟩
  | .hbm, ⟨3, _⟩ => ⟨S2048x4096, .f32⟩
  | .hbm, ⟨4, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddSsmInRefIdeal.lean ====
abbrev S8192x4096 : Shape := ⟨2, ![8192, 4096]⟩
abbrev S4096x8640 : Shape := ⟨2, ![4096, 8640]⟩
abbrev S8192x8640 : Shape := ⟨2, ![8192, 8640]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8640, .f32⟩
  | .hbm, ⟨2, _⟩ => ⟨S8192x4096, .f32⟩
  | .hbm, ⟨3, _⟩ => ⟨S8192x8640, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Glu.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S8192x2048, .bf16⟩
  | .hbm, ⟨4, _⟩ => ⟨S1x2048, .f32⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluRefIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== OutProj.lean ====
abbrev S8192x2048 : Shape := ⟨2, ![8192, 2048]⟩
abbrev S4096x4096 : Shape := ⟨2, ![4096, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S2048x512, .bf16⟩
  | .local _ .vmem, ⟨13, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S8192x2048 : Shape := ⟨2, ![8192, 2048]⟩
abbrev S4096x4096 : Shape := ⟨2, ![4096, 4096]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Down.lean ====
abbrev S24576x1024 : Shape := ⟨2, ![24576, 1024]⟩
abbrev S96 : Shape := ⟨1, ![96]⟩
abbrev S2x32x1024x4096 : Shape := ⟨4, ![2, 32, 1024, 4096]⟩
abbrev S24576x4096 : Shape := ⟨2, ![24576, 4096]⟩
abbrev S256x1024 : Shape := ⟨2, ![256, 1024]⟩
abbrev S1x1x1024x4096 : Shape := ⟨4, ![1, 1, 1024, 4096]⟩
abbrev S1 : Shape := ⟨1, ![1]⟩
abbrev S256x4096 : Shape := ⟨2, ![256, 4096]⟩
abbrev S1024x4096 : Shape := ⟨2, ![1024, 4096]⟩
abbrev S128x1024 : Shape := ⟨2, ![128, 1024]⟩
abbrev S128x4096 : Shape := ⟨2, ![128, 4096]⟩

abbrev nBuf : Space → Nat
  | .hbm => 3
  | .vmem => 7
  | .smem => 3
  | _ => 0

abbrev bufTy : (tb : Table) → Fin (tcTables nBuf tb) → BufTy
  | .hbm, ⟨0, _⟩ => ⟨S24576x1024, .bf16⟩
  | .hbm, ⟨1, _⟩ => ⟨S2x32x1024x4096, .f32⟩
  | .hbm, ⟨2, _⟩ => ⟨S24576x4096, .f32⟩
  | .local _ .vmem, ⟨0, _⟩ => ⟨S256x1024, .bf16⟩
  | .local _ .vmem, ⟨1, _⟩ => ⟨S256x1024, .bf16⟩
  | .local _ .vmem, ⟨2, _⟩ => ⟨S1x1x1024x4096, .f32⟩
  | .local _ .vmem, ⟨3, _⟩ => ⟨S1x1x1024x4096, .f32⟩
  | .local _ .vmem, ⟨4, _⟩ => ⟨S256x4096, .f32⟩
  | .local _ .vmem, ⟨5, _⟩ => ⟨S256x4096, .f32⟩
  | .local _ .vmem, ⟨6, _⟩ => ⟨S1024x4096, .bf16⟩
  | .local _ .smem, ⟨0, _⟩ => ⟨S96, .i32⟩
  | .local _ .smem, ⟨1, _⟩ => ⟨S96, .i32⟩
  | .local _ .smem, ⟨2, _⟩ => ⟨S96, .i32⟩
  | _, _ => ⟨S24576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 96], ![false, false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_cond2 (v6 : BitVec 32) : BitVec 1 :=
  let c128_i32 : BitVec 32 := 128#32
  let v7 : BitVec 1 := Scalar.cmpi .sgt v6 c128_i32
  let v8 : BitVec 32 := Scalar.extui v7
  let c0_i32_0 : BitVec 32 := 0#32
  let v9 : BitVec 1 := Scalar.cmpi .ne v8 c0_i32_0
  v9

def k0_cond3 (v6 : BitVec 32) : BitVec 1 :=
  let c0_i32_1 : BitVec 32 := 0#32
  let v10 : BitVec 1 := Scalar.cmpi .sgt v6 c0_i32_1
  let c128_i32_2 : BitVec 32 := 128#32
  let v11 : BitVec 1 := Scalar.cmpi .sle v6 c128_i32_2
  let v12 : BitVec 1 := Scalar.andi v10 v11
  let v13 : BitVec 32 := Scalar.extui v12
  let c0_i32_3 : BitVec 32 := 0#32
  let v14 : BitVec 1 := Scalar.cmpi .ne v13 c0_i32_3
  v14

def k0_cond4 (v6 : BitVec 32) : BitVec 1 :=
  let c0_i32_4 : BitVec 32 := 0#32
  let v15 : BitVec 1 := Scalar.cmpi .eq v6 c0_i32_4
  let v16 : BitVec 32 := Scalar.extui v15
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S24576x1024 : Shape := ⟨2, ![24576, 1024]⟩
abbrev S96 : Shape := ⟨1, ![96]⟩
abbrev S2x32x1024x4096 : Shape := ⟨4, ![2, 32, 1024, 4096]⟩
abbrev S96x256x1024 : Shape := ⟨3, ![96, 256, 1024]⟩
abbrev S_ : Shape := ⟨0, ![]⟩
abbrev S96x1 : Shape := ⟨2, ![96, 1]⟩
abbrev S96x2 : Shape := ⟨2, ![96, 2]⟩
abbrev S96x1024x4096 : Shape := ⟨3, ![96, 1024, 4096]⟩
abbrev S96x256x4096 : Shape := ⟨3, ![96, 256, 4096]⟩
abbrev S24576x4096 : Shape := ⟨2, ![24576, 4096]⟩

abbrev nBuf : Space → Nat
  | .hbm => 23
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S96, .i32⟩
  | .hbm, ⟨2, _⟩ => ⟨S96, .i32⟩
  | .hbm, ⟨3, _⟩ => ⟨S96, .i32⟩
  | .hbm, ⟨4, _⟩ => ⟨S2x32x1024x4096, .f32⟩
  | .hbm, ⟨5, _⟩ => ⟨S96x256x1024, .bf16⟩
  | .hbm, ⟨6, _⟩ => ⟨S96x256x1024, .f32⟩
  | .hbm, ⟨7, _⟩ => ⟨S_, .i32⟩
  | .hbm, ⟨8, _⟩ => ⟨S96, .i32⟩
  | .hbm, ⟨9, _⟩ => ⟨S96, .i1⟩
  | .hbm, ⟨10, _⟩ => ⟨S_, .i32⟩
  | .hbm, ⟨11, _⟩ => ⟨S96, .i32⟩
  | .hbm, ⟨12, _⟩ => ⟨S96, .i32⟩
  | .hbm, ⟨13, _⟩ => ⟨S96, .i32⟩
  | .hbm, ⟨14, _⟩ => ⟨S_, .i32⟩
  | .hbm, ⟨15, _⟩ => ⟨S96, .i32⟩
  | .hbm, ⟨16, _⟩ => ⟨S96, .i32⟩
  | .hbm, ⟨17, _⟩ => ⟨S96x1, .i32⟩
  | .hbm, ⟨18, _⟩ => ⟨S96x1, .i32⟩
  | .hbm, ⟨19, _⟩ => ⟨S96x2, .i32⟩
  | .hbm, ⟨20, _⟩ => ⟨S96x1024x4096, .f32⟩
  | .hbm, ⟨21, _⟩ => ⟨S96x256x4096, .f32⟩
  | .hbm, ⟨22, _⟩ => ⟨S24576x4096, .f32⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.Ssm.RefRun.lean ====
/- The run of the reference over its loop: at every trip the buffers hold a state, one trip takes the state to the next one, and the
   result is read off the last state.  The lemmas follow the operations of one trip in order. -/
module

public import proofs.«01_k».proof.Proof.Gen.ReferenceIdeal.Run
public import proofs.«01_k».proof.Proof.Gen.ReferenceIdeal.Step

@[expose] public section

noncomputable section

namespace Cert.ReferenceIdeal.SsmRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v52_5) = s.main_v52_5
  f_6 : V0 (Proc.devRef .tc main_v52_6) = s.main_v52_6
  f_7 : V0 (Proc.devRef .tc main_v52_7) = s.main_v52_7
  f_8 : V0 (Proc.devRef .tc main_v52_8) = s.main_v52_8
  f_0 : V0 (Proc.devRef .tc main_v52_0) = s.main_v52_0
  f_1 : V0 (Proc.devRef .tc main_v52_1) = s.main_v52_1
  f_2 : V0 (Proc.devRef .tc main_v52_2) = s.main_v52_2
  f_3 : V0 (Proc.devRef .tc main_v52_3) = s.main_v52_3
  n_4 : V0 (Proc.devRef .tc main_v52_4) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x128x64 (V0 (Proc.devRef .tc main_v52_0)) (fun k => (((![V0 (Proc.devRef .tc main_v52_4), constantI S_ 32 0#32, constantI S_ 32 0#32] : Fin 3 → (⟨S_, .i32⟩ : BufTy).Contents (Elt F))) k (Shape.Idx.first h_S_)).toInt) sliceFits_S8192x128x64_S1x128x64 : (Proc.devRef .tc main_while0b_call0_v0 : DevRef τ sig).ty.Contents (Elt F)) = Cert.ReferenceIdeal.Step.b2 j s := by
  unfold Cert.ReferenceIdeal.Step.b2
  rw [← al_0 h, ← al_1 h, h.f_0, h.n_4]
  try rfl
set_option maxRecDepth 8192 in
theorem al_3 (h : Holds V0 s j) : (shapeCast S128x64 (Host.dynamicSlice S1x128x64 (V0 (Proc.devRef .tc main_v52_0)) (fun k => (((![V0 (Proc.devRef .tc main_v52_4), constantI S_ 32 0#32, constantI S_ 32 0#32] : Fin 3 → (⟨S_, .i32⟩ : BufTy).Contents (Elt F))) k (Shape.Idx.first h_S_)).toInt) sliceFits_S8192x128x64_S1x128x64) shapeCasts_S1x128x64_S128x64 : (Proc.devRef .tc main_while0b_v77 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call1_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call1_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x128x64 (V0 (Proc.devRef .tc main_v52_1)) (fun k => (((![V0 (Proc.devRef .tc main_v52_4), constantI S_ 32 0#32, constantI S_ 32 0#32] : Fin 3 → (⟨S_, .i32⟩ : BufTy).Contents (Elt F))) k (Shape.Idx.first h_S_)).toInt) sliceFits_S8192x128x64_S1x128x64 : (Proc.devRef .tc main_while0b_call1_v0 : DevRef τ sig).ty.Contents (Elt F)) = Cert.ReferenceIdeal.Step.b6 j s := by
  unfold Cert.ReferenceIdeal.Step.b6
  rw [← al_4 h, ← al_5 h, h.f_1, h.n_4]
  try rfl
set_option maxRecDepth 8192 in
theorem al_7 (h : Holds V0 s j) : (shapeCast S128x64 (Host.dynamicSlice S1x128x64 (V0 (Proc.devRef .tc main_v52_1)) (fun k => (((![V0 (Proc.devRef .tc main_v52_4), constantI S_ 32 0#32, constantI S_ 32 0#32] : Fin 3 → (⟨S_, .i32⟩ : BufTy).Contents (Elt F))) k (Shape.Idx.first h_S_)).toInt) sliceFits_S8192x128x64_S1x128x64) shapeCasts_S1x128x64_S128x64 : (Proc.devRef .tc main_while0b_v78 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (mulf (V0 (Proc.devRef .tc main_v52_2)) (V0 (Proc.devRef .tc main_v52_5)) : (Proc.devRef .tc main_while0b_v79 : DevRef τ sig).ty.Contents (Elt F)) = Cert.ReferenceIdeal.Step.b8 j s := by
  unfold Cert.ReferenceIdeal.Step.b8
  rw [h.f_2, h.f_5]
  try rfl
set_option maxRecDepth 8192 in
theorem al_9 (h : Holds V0 s j) : (mulf (V0 (Proc.devRef .tc main_v52_3)) (V0 (Proc.devRef .tc main_v52_6)) : (Proc.devRef .tc main_while0b_v80 : DevRef τ sig).ty.Contents (Elt F)) = Cert.ReferenceIdeal.Step.b9 j s := by
  unfold Cert.ReferenceIdeal.Step.b9
  rw [h.f_3, h.f_6]
  try rfl
set_option maxRecDepth 8192 in
theorem al_10 (h : Holds V0 s j) : (subf (mulf (V0 (Proc.devRef .tc main_v52_2)) (V0 (Proc.devRef .tc main_v52_5))) (mulf (V0 (Proc.devRef .tc main_v52_3)) (V0 (Proc.devRef .tc main_v52_6))) : (Proc.devRef .tc main_while0b_v81 : DevRef τ sig).ty.Contents (Elt F)) = Cert.ReferenceIdeal.Step.b10 j s := by
  unfold Cert.ReferenceIdeal.Step.b10
  rw [← al_8 h, ← al_9 h]
  try rfl
set_option maxRecDepth 8192 in
theorem al_11 (h : Holds V0 s j) : (res_main_while0b_v82 V0 : (Proc.devRef .tc main_while0b_v82 : DevRef τ sig).ty.Contents (Elt F)) = Cert.ReferenceIdeal.Step.b11 j s := by
  unfold res_main_while0b_v82 Cert.ReferenceIdeal.Step.b11
  rw [← al_10 h, ← al_3 h]
  try rfl
set_option maxRecDepth 8192 in
theorem al_12 (h : Holds V0 s j) : (mulf (V0 (Proc.devRef .tc main_v52_2)) (V0 (Proc.devRef .tc main_v52_6)) : (Proc.devRef .tc main_while0b_v83 : DevRef τ sig).ty.Contents (Elt F)) = Cert.ReferenceIdeal.Step.b12 j s := by
  unfold Cert.ReferenceIdeal.Step.b12
  rw [h.f_2, h.f_6]
  try rfl
set_option maxRecDepth 8192 in
theorem al_13 (h : Holds V0 s j) : (mulf (V0 (Proc.devRef .tc main_v52_3)) (V0 (Proc.devRef .tc main_v52_5)) : (Proc.devRef .tc main_while0b_v84 : DevRef τ sig).ty.Contents (Elt F)) = Cert.ReferenceIdeal.Step.b13 j s := by
  unfold Cert.ReferenceIdeal.Step.b13
  rw [h.f_3, h.f_5]
  try rfl
set_option maxRecDepth 8192 in
theorem al_14 (h : Holds V0 s j) : (addf (mulf (V0 (Proc.devRef .tc main_v52_2)) (V0 (Proc.devRef .tc main_v52_6))) (mulf (V0 (Proc.devRef .tc main_v52_3)) (V0 (Proc.devRef .tc main_v52_5))) : (Proc.devRef .tc main_while0b_v85 : DevRef τ sig).ty.Contents (Elt F)) = Cert.ReferenceIdeal.Step.b14 j s := by
  unfold Cert.ReferenceIdeal.Step.b14
  rw [← al_12 h, ← al_13 h]
  try rfl
set_option maxRecDepth 8192 in
theorem al_15 (h : Holds V0 s j) : (res_main_while0b_v86 V0 : (Proc.devRef .tc main_while0b_v86 : DevRef τ sig).ty.Contents (Elt F)) = Cert.ReferenceIdeal.Step.b15 j s := by
  unfold res_main_while0b_v86 Cert.ReferenceIdeal.Step.b15
  rw [← al_14 h, ← al_7 h]
  try rfl
set_option maxRecDepth 8192 in
theorem al_16 (h : Holds V0 s j) : (broadcastInDim S1x128x64 ![1, 2] bcast_S128x64_S1x128x64_1_2 (res_main_while0b_v82 V0) : (Proc.devRef .tc main_while0b_call2_v0 : DevRef τ sig).ty.Contents (Elt F)) = Cert.ReferenceIdeal.Step.b16 j s := by
  unfold Cert.ReferenceIdeal.Step.b16
  rw [← al_11 h]
  try rfl
set_option maxRecDepth 8192 in
theorem al_17 (h : Holds V0 s j) : (constantI S_ 32 0#32 : (Proc.devRef .tc main_while0b_call2_c : DevRef τ sig).ty.Contents (Elt F)) = Cert.ReferenceIdeal.Step.b17 j s := by
  unfold Cert.ReferenceIdeal.Step.b17
  rfl
set_option maxRecDepth 8192 in
theorem al_18 (h : Holds V0 s j) : (constantI S_ 32 0#32 : (Proc.devRef .tc main_while0b_call2_c_0 : DevRef τ sig).ty.Contents (Elt F)) = Cert.ReferenceIdeal.Step.b18 j s := by
  unfold Cert.ReferenceIdeal.Step.b18
  rfl
set_option maxRecDepth 8192 in
theorem al_19 (h : Holds V0 s j) : (Host.dynamicUpdateSlice (V0 (Proc.devRef .tc main_v52_7)) (broadcastInDim S1x128x64 ![1, 2] bcast_S128x64_S1x128x64_1_2 (res_main_while0b_v82 V0)) (fun k => (((![V0 (Proc.devRef .tc main_v52_4), constantI S_ 32 0#32, constantI S_ 32 0#32] : Fin 3 → (⟨S_, .i32⟩ : BufTy).Contents (Elt F))) k (Shape.Idx.first h_S_)).toInt) updateFits_S8192x128x64_S1x128x64 : (Proc.devRef .tc main_while0b_v87 : DevRef τ sig).ty.Contents (Elt F)) = Cert.ReferenceIdeal.Step.b19 j s := by
  unfold Cert.ReferenceIdeal.Step.b19
  rw [← al_16 h, ← al_17 h, ← al_18 h, h.f_7, h.n_4]
  try rfl
set_option maxRecDepth 8192 in
theorem al_20 (h : Holds V0 s j) : (broadcastInDim S1x128x64 ![1, 2] bcast_S128x64_S1x128x64_1_2 (res_main_while0b_v86 V0) : (Proc.devRef .tc main_while0b_call3_v0 : DevRef τ sig).ty.Contents (Elt F)) = Cert.ReferenceIdeal.Step.b20 j s := by
  unfold Cert.ReferenceIdeal.Step.b20
  rw [← al_15 h]
  try rfl
set_option maxRecDepth 8192 in
theorem al_21 (h : Holds V0 s j) : (constantI S_ 32 0#32 : (Proc.devRef .tc main_while0b_call3_c : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call3_c_0 : DevRef τ sig).ty.Contents (Elt F)) = Cert.ReferenceIdeal.Step.b22 j s := by
  unfold Cert.ReferenceIdeal.Step.b22
  rfl
set_option maxRecDepth 8192 in
theorem al_23 (h : Holds V0 s j) : (Host.dynamicUpdateSlice (V0 (Proc.devRef .tc main_v52_8)) (broadcastInDim S1x128x64 ![1, 2] bcast_S128x64_S1x128x64_1_2 (res_main_while0b_v86 V0)) (fun k => (((![V0 (Proc.devRef .tc main_v52_4), constantI S_ 32 0#32, constantI S_ 32 0#32] : Fin 3 → (⟨S_, .i32⟩ : BufTy).Contents (Elt F))) k (Shape.Idx.first h_S_)).toInt) updateFits_S8192x128x64_S1x128x64 : (Proc.devRef .tc main_while0b_v88 : DevRef τ sig).ty.Contents (Elt F)) = Cert.ReferenceIdeal.Step.b23 j s := by
  unfold Cert.ReferenceIdeal.Step.b23
  rw [← al_20 h, ← al_21 h, ← al_22 h, h.f_8, h.n_4]
  try rfl

/-! One trip's step of the carried values is `step`, field by field; a counter steps to the next number. -/

theorem step_5 (h : Holds V0 s j) : step_main_v52_5 V0 = (step j s).main_v52_5 := by
  unfold step_main_v52_5 Cert.ReferenceIdeal.Step.step
  show id (res_main_while0b_v82 V0) = _
  rw [al_11 h]
  try rfl
theorem step_6 (h : Holds V0 s j) : step_main_v52_6 V0 = (step j s).main_v52_6 := by
  unfold step_main_v52_6 Cert.ReferenceIdeal.Step.step
  show id (res_main_while0b_v86 V0) = _
  rw [al_15 h]
  try rfl
theorem step_7 (h : Holds V0 s j) : step_main_v52_7 V0 = (step j s).main_v52_7 := by
  unfold step_main_v52_7 Cert.ReferenceIdeal.Step.step
  show id (Host.dynamicUpdateSlice (V0 (Proc.devRef .tc main_v52_7)) (broadcastInDim S1x128x64 ![1, 2] bcast_S128x64_S1x128x64_1_2 (res_main_while0b_v82 V0)) (fun k => (((![V0 (Proc.devRef .tc main_v52_4), constantI S_ 32 0#32, constantI S_ 32 0#32] : Fin 3 → (⟨S_, .i32⟩ : BufTy).Contents (Elt F))) k (Shape.Idx.first h_S_)).toInt) updateFits_S8192x128x64_S1x128x64) = _
  exact al_19 h
theorem step_8 (h : Holds V0 s j) : step_main_v52_8 V0 = (step j s).main_v52_8 := by
  unfold step_main_v52_8 Cert.ReferenceIdeal.Step.step
  show id (Host.dynamicUpdateSlice (V0 (Proc.devRef .tc main_v52_8)) (broadcastInDim S1x128x64 ![1, 2] bcast_S128x64_S1x128x64_1_2 (res_main_while0b_v86 V0)) (fun k => (((![V0 (Proc.devRef .tc main_v52_4), constantI S_ 32 0#32, constantI S_ 32 0#32] : Fin 3 → (⟨S_, .i32⟩ : BufTy).Contents (Elt F))) k (Shape.Idx.first h_S_)).toInt) updateFits_S8192x128x64_S1x128x64) = _
  exact al_23 h
theorem step_4 (h : Holds V0 s j) : step_main_v52_4 V0 = constantI S_ 32 (BitVec.ofNat 32 (j + 1)) := by
  unfold step_main_v52_4
  rw [h.n_4]
  funext i
  show BitVec.ofNat 32 j + 1#32 = BitVec.ofNat 32 (j + 1)
  simp only [BitVec.ofNat_add]

set_option maxRecDepth 8192 in
theorem out_main_v76_holds (h : Holds V0 s j) {x_main_arg0 : (⟨S8192x2048, .f32⟩ : BufTy).Contents (Elt F)} (h_main_arg0 : V0 (Proc.devRef .tc main_arg0) = x_main_arg0) {x_main_arg6 : (⟨S128x16x64, .f32⟩ : BufTy).Contents (Elt F)} (h_main_arg6 : V0 (Proc.devRef .tc main_arg6) = x_main_arg6) {x_main_arg7 : (⟨S128x16x64, .f32⟩ : BufTy).Contents (Elt F)} (h_main_arg7 : V0 (Proc.devRef .tc main_arg7) = x_main_arg7) {x_main_arg8 : (⟨S128x16, .f32⟩ : BufTy).Contents (Elt F)} (h_main_arg8 : V0 (Proc.devRef .tc main_arg8) = x_main_arg8) : out_main_v76 V0 = Cert.ReferenceIdeal.Step.R_main_v76 s x_main_arg0 x_main_arg6 x_main_arg7 x_main_arg8 := by
  unfold out_main_v76 Cert.ReferenceIdeal.Step.R_main_v76
  rw [h.f_7, h.f_8, h_main_arg0, h_main_arg6, h_main_arg7, h_main_arg8]
  try rfl

/-- One trip keeps the valuation holding: `step` of the state, the same set-up values, the next number. -/
theorem holds_step (h : Holds V0 s j) : Holds (STEP V0) (step j s) (j + 1) where
  f_5 := (STEP_main_v52_5 V0).trans (step_5 h)
  f_6 := (STEP_main_v52_6 V0).trans (step_6 h)
  f_7 := (STEP_main_v52_7 V0).trans (step_7 h)
  f_8 := (STEP_main_v52_8 V0).trans (step_8 h)
  n_4 := (STEP_main_v52_4 V0).trans (step_4 h)
  f_0 := (STEP_main_v52_0 V0).trans h.f_0
  f_1 := (STEP_main_v52_1 V0).trans h.f_1
  f_2 := (STEP_main_v52_2 V0).trans h.f_2
  f_3 := (STEP_main_v52_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v76) = Cert.ReferenceIdeal.Step.R_main_v76 (it c 8192) (m ((c.tc : Thread nD τ).loc main_arg0)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 8192
    ⟨(h c).1.trans (out_main_v76_holds hk (iter_main_arg0 m c 8192) (iter_main_arg6 m c 8192) (iter_main_arg7 m c 8192) (iter_main_arg8 m c 8192)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.SsmRun

end
-- ==== Proof.Ssm.RunA.lean ====
/- The body of the diagonal recurrence at the start of a sequence. -/
module

public import proofs.«01_k».proof.Proof.Gen.KernelIdeal.Loops
public import proofs.«01_k».proof.Proof.Gen.KernelIdeal.Frame

@[expose] public section

set_option maxRecDepth 16384

noncomputable section

namespace Cert.KernelIdeal.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Whether the point starts a sequence, as the body decides it. -/
abbrev cond (i : grid0.Coords) : Prop := (Scalar.cmpi .ne (Scalar.extui (Scalar.cmpi .eq (BitVec.ofNat 32 (i 1).val) 0#32)) 0#32) = 1#1

theorem cond_iff : ∀ t : Fin cfg0.N, cond (grid0.coords t) ↔ t.val % 8 = 0 :=
  (fun t => by
    have ht : t.val < 128 := Nat.lt_of_lt_of_eq t.isLt N_0
    have e1 : (grid0.coords t 1).val = t.val / 1 % 8 := Pipeline.Grid.coords_val t 1 (by decide) rfl
    simp only [cond, e1]
    word_cmp
   : ∀ t : Fin grid0.N, cond (grid0.coords t) ↔ t.val % 8 = 0)

set_option maxHeartbeats 4000000 in
/-- The body at the start of a sequence: the carried state is reset. The stores into the output block and into the carried scratch are found by the run; the scratch of the
    states is written over before it is read. -/
noncomputable def runA (c : Dev nD) (i : grid0.Coords) (arg2 : Memref sig .tc .vmem S1024x128 .f32) (harg2 : arg2.IsWhole) (arg3 : Memref sig .tc .vmem S1x128x1024 .bf16) (harg3 : arg3.IsWhole)
    (arg4 : Memref sig .tc .vmem S1x1024x128 .bf16) (harg4 : arg4.IsWhole) (arg5 : Memref sig .tc .vmem S1x8x8x512 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x1024 .f32) (harg8 : arg8.IsWhole) (arg9 : Memref sig .tc .vmem S8x512 .f32) (harg9 : arg9.IsWhole)
    (hc : cond i) (x0 : Vec F S1024x128 .f32) (x1 : Vec F S1x128x1024 .bf16) (x2 : Vec F S1x1024x128 .bf16) (x3 : Vec F S1x8x8x512 .f32) (x4 : Vec F S1x128 .f32) :
    Σ' (L5 : List (View.Piece (Elt F) S1024x128 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} f) ∗ arg9.view.loc (c : Thread nD τ) ↦[arg9.view.set]{fullShare} arg9.view.writes (Elt F) arg9.view.junk LS) -∗ K ⟨⟩))
          ⊢ wp frame (wpE (defs₀ (F := F)) Variants.none c none) E (cc0_s5_ssm i arg2 harg2 arg3 harg3 arg4 harg4 arg5 harg5 arg6 harg6 arg7 harg7 arg8 harg8 arg9 harg9) K } := by
  refine ⟨?_, ?_, fun E K => ?run⟩
  case run =>
    simp only [cc0_s5_ssm_eq_skeleton]; unfold cc0_s5_ssm_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]
    · iexists _; iexact H8
    iexact H9

end Cert.KernelIdeal.Ssm

end
-- ==== Proof.Ssm.RunB.lean ====
/- The body of the diagonal recurrence at a later point of a sequence. -/
module

public import proofs.«01_k».proof.Proof.Ssm.RunA

@[expose] public section

set_option maxRecDepth 16384

noncomputable section

namespace Cert.KernelIdeal.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a later point: the carried state is what the point before left. The stores into the output block and into the carried scratch are found by the run; the scratch of the
    states is written over before it is read. -/
noncomputable def runB (c : Dev nD) (i : grid0.Coords) (arg2 : Memref sig .tc .vmem S1024x128 .f32) (harg2 : arg2.IsWhole) (arg3 : Memref sig .tc .vmem S1x128x1024 .bf16) (harg3 : arg3.IsWhole)
    (arg4 : Memref sig .tc .vmem S1x1024x128 .bf16) (harg4 : arg4.IsWhole) (arg5 : Memref sig .tc .vmem S1x8x8x512 .f32) (harg5 : arg5.IsWhole)
    (arg6 : Memref sig .tc .vmem S1x128 .f32) (harg6 : arg6.IsWhole) (arg7 : Memref sig .tc .vmem S1024x128 .f32) (harg7 : arg7.IsWhole)
    (arg8 : Memref sig .tc .vmem S1024x1024 .f32) (harg8 : arg8.IsWhole) (arg9 : Memref sig .tc .vmem S8x512 .f32) (harg9 : arg9.IsWhole)
    (hc : ¬cond i) (x0 : Vec F S1024x128 .f32) (x1 : Vec F S1x128x1024 .bf16) (x2 : Vec F S1x1024x128 .bf16) (x3 : Vec F S1x8x8x512 .f32) (x4 : Vec F S1x128 .f32) (xs : Vec F S8x512 .f32) :
    Σ' (L5 : List (View.Piece (Elt F) S1024x128 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} f) ∗ arg9.view.loc (c : Thread nD τ) ↦[arg9.view.set]{fullShare} arg9.view.writes (Elt F) (harg9.unread xs) LS) -∗ K ⟨⟩))
          ⊢ wp frame (wpE (defs₀ (F := F)) Variants.none c none) E (cc0_s5_ssm i arg2 harg2 arg3 harg3 arg4 harg4 arg5 harg5 arg6 harg6 arg7 harg7 arg8 harg8 arg9 harg9) K } := by
  refine ⟨?_, ?_, fun E K => ?run⟩
  case run =>
    simp only [cc0_s5_ssm_eq_skeleton]; unfold cc0_s5_ssm_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf9
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]
    · iexists _; iexact H8
    iexact H9

end Cert.KernelIdeal.Ssm

end
-- ==== Proof.Ssm.Frame.lean ====
/- The frame of the diagonal recurrence: what each point leaves in its output block and in the carried state, and the launch. -/
module

public import proofs.«01_k».proof.Proof.Ssm.RunB
public import Idealize.ShloMosaic.Lib.Claim

@[expose] public section

set_option maxRecDepth 16384

noncomputable section

namespace Cert.KernelIdeal.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging memref at point `t`. -/
abbrev ms0 (t : Fin cfg0.N) : Memref sig .tc .vmem S1024x128 .f32 := win0_0.stage (cfg0.slots t 0)
theorem hs0 (t : Fin cfg0.N) : (ms0 t).IsWhole := hstage0_0 ((cfg0.slots t 0).cast nbuf0_0)
/-- Window 1's staging memref at point `t`. -/
abbrev ms1 (t : Fin cfg0.N) : Memref sig .tc .vmem S1x128x1024 .bf16 := win0_1.stage (cfg0.slots t 1)
theorem hs1 (t : Fin cfg0.N) : (ms1 t).IsWhole := hstage0_1 ((cfg0.slots t 1).cast nbuf0_1)
/-- Window 2's staging memref at point `t`. -/
abbrev ms2 (t : Fin cfg0.N) : Memref sig .tc .vmem S1x1024x128 .bf16 := win0_2.stage (cfg0.slots t 2)
theorem hs2 (t : Fin cfg0.N) : (ms2 t).IsWhole := hstage0_2 ((cfg0.slots t 2).cast nbuf0_2)
/-- Window 3's staging memref at point `t`. -/
abbrev ms3 (t : Fin cfg0.N) : Memref sig .tc .vmem S1x8x8x512 .f32 := win0_3.stage (cfg0.slots t 3)
theorem hs3 (t : Fin cfg0.N) : (ms3 t).IsWhole := hstage0_3 ((cfg0.slots t 3).cast nbuf0_3)
/-- Window 4's staging memref at point `t`. -/
abbrev ms4 (t : Fin cfg0.N) : Memref sig .tc .vmem S1x128 .f32 := win0_4.stage (cfg0.slots t 4)
theorem hs4 (t : Fin cfg0.N) : (ms4 t).IsWhole := hstage0_4 ((cfg0.slots t 4).cast nbuf0_4)
/-- Window 5's staging memref at point `t`. -/
abbrev ms5 (t : Fin cfg0.N) : Memref sig .tc .vmem S1024x128 .f32 := win0_5.stage (cfg0.slots t 5)
theorem hs5 (t : Fin cfg0.N) : (ms5 t).IsWhole := hstage0_5 ((cfg0.slots t 5).cast nbuf0_5)
/-- The scratch of the states and the carried scratch. -/
abbrev scX : Memref sig .tc .vmem S1024x1024 .f32 := Memref.whole cc0_scratch0
abbrev scC : Memref sig .tc .vmem S8x512 .f32 := Memref.whole cc0_scratch1
/-- A staging buffer of the output, through which its contents are stated. -/
abbrev VO : View sig .tc .vmem S1024x128 .f32 := (Memref.whole cc0_stg5_0 : Memref sig .tc .vmem S1024x128 .f32).view

/-- The two cases at a point. -/
noncomputable abbrev ptA (c : Dev nD) (t : Fin cfg0.N) (h : t.val % 8 = 0) :=
  runA (F := F) c (grid0.coords t) (ms0 t) (hs0 t) (ms1 t) (hs1 t) (ms2 t) (hs2 t) (ms3 t) (hs3 t) (ms4 t) (hs4 t) (ms5 t) (hs5 t) scX (Memref.isWhole_whole _) scC (Memref.isWhole_whole _) ((cond_iff t).mpr h) (iblk m c 0 t) (iblk m c 1 t) (iblk m c 2 t) (iblk m c 3 t) (iblk m c 4 t)
noncomputable abbrev ptB (c : Dev nD) (t : Fin cfg0.N) (h : ¬t.val % 8 = 0) (xs : Vec F S8x512 .f32) :=
  runB (F := F) c (grid0.coords t) (ms0 t) (hs0 t) (ms1 t) (hs1 t) (ms2 t) (hs2 t) (ms3 t) (hs3 t) (ms4 t) (hs4 t) (ms5 t) (hs5 t) scX (Memref.isWhole_whole _) scC (Memref.isWhole_whole _) (fun hc => h ((cond_iff t).mp hc)) (iblk m c 0 t) (iblk m c 1 t) (iblk m c 2 t) (iblk m c 3 t) (iblk m c 4 t) xs

theorem coverA (c : Dev nD) (t : Fin cfg0.N) (h : t.val % 8 = 0) (y : S1024x128.Idx) : ∃ pc ∈ (ptA m c t h).1, y ∈ pc.1.set :=
  View.cover_of_tiledL (ptA m c t h).1 S1024x128.size (by sl_kernel_rfl) y
theorem coverB (c : Dev nD) (t : Fin cfg0.N) (h : ¬t.val % 8 = 0) (xs : Vec F S8x512 .f32) (y : S1024x128.Idx) :
    ∃ pc ∈ (ptB m c t h xs).1, y ∈ pc.1.set :=
  View.cover_of_tiledL (ptB m c t h xs).1 S1024x128.size (by sl_kernel_rfl) y

/-- What a point leaves: its output block, and the carried scratch. -/
def leftA (c : Dev nD) (t : Fin cfg0.N) (h : t.val % 8 = 0) : Vec F S1024x128 .f32 × Vec F S8x512 .f32 :=
  (VO.read (Elt F) (VO.writes (Elt F) VO.junk (ptA m c t h).1), scC.view.read (Elt F) (scC.view.writes (Elt F) scC.view.junk (ptA m c t h).2.1))
def leftB (c : Dev nD) (t : Fin cfg0.N) (h : ¬t.val % 8 = 0) (xs : Vec F S8x512 .f32) : Vec F S1024x128 .f32 × Vec F S8x512 .f32 :=
  (VO.read (Elt F) (VO.writes (Elt F) VO.junk (ptB m c t h xs).1),
    scC.view.read (Elt F) (scC.view.writes (Elt F) ((Memref.isWhole_whole _ : scC.IsWhole).unread xs) (ptB m c t h xs).2.1))

/-- What the points leave, one after another. -/
def left (c : Dev nD) : (n : ℕ) → n < cfg0.N → Vec F S1024x128 .f32 × Vec F S8x512 .f32
  | 0, hn => leftA m c ⟨0, hn⟩ (Nat.zero_mod _)
  | n + 1, hn => if h : (n + 1) % 8 = 0 then leftA m c ⟨n + 1, hn⟩ h else leftB m c ⟨n + 1, hn⟩ h (left c n (Nat.lt_of_succ_lt hn)).2

theorem left_A (c : Dev nD) (t : Fin cfg0.N) (h : t.val % 8 = 0) : left m c t.val t.isLt = leftA m c t h := by
  obtain ⟨n, hn⟩ := t
  cases n with
  | zero => exact rfl
  | succ n => exact (dif_pos h).trans rfl

theorem left_B (c : Dev nD) (t : Fin cfg0.N) (h : ¬t.val % 8 = 0) :
    left m c t.val t.isLt = leftB m c t h (left m c (t.val - 1) (Nat.lt_of_le_of_lt (Nat.sub_le _ _) t.isLt)).2 := by
  obtain ⟨n, hn⟩ := t
  cases n with
  | zero => exact absurd (Nat.zero_mod _) h
  | succ n => exact (dif_neg h).trans rfl

theorem PhiA_eq (c : Dev nD) :
    (Pipeline.ΦA spec0 c : sProp 𝕄)
      = iprop(iprop((∃ d, owns (c : Thread nD τ) scX fullShare d) ∗ (∃ d, owns (c : Thread nD τ) scC fullShare d)) ∗ (∃ r, prngReg c r)) := by
  unfold Pipeline.ΦA; rw [scopedRest0_eq]; simp only [scX, scC, owns_whole]; try rfl

/-- The carried scratch before position `n`: at anything before the first point, then as the point before left it. -/
def Phi (c : Dev nD) : (n : ℕ) → n ≤ cfg0.N → sProp 𝕄
  | 0, _ => Pipeline.ΦA spec0 c
  | n + 1, hn => iprop(iprop((∃ d, owns (c : Thread nD τ) scX fullShare d) ∗ owns (c : Thread nD τ) scC fullShare (left m c n hn).2) ∗ (∃ r, prngReg c r))

theorem Phi_zero (c : Dev nD) (n : ℕ) (h : n ≤ cfg0.N) (hz : n = 0) : Phi m c n h = Pipeline.ΦA spec0 c := by
  subst hz; rfl
theorem Phi_succ (c : Dev nD) (n : ℕ) (hn : n < cfg0.N) :
    Phi m c (n + 1) hn = iprop(iprop((∃ d, owns (c : Thread nD τ) scX fullShare d) ∗ owns (c : Thread nD τ) scC fullShare (left m c n hn).2) ∗ (∃ r, prngReg c r)) := rfl
theorem Phi_pos (c : Dev nD) (n : ℕ) (h : n ≤ cfg0.N) (hz : n ≠ 0) :
    Phi m c n h = iprop(iprop((∃ d, owns (c : Thread nD τ) scX fullShare d) ∗ owns (c : Thread nD τ) scC fullShare (left m c (n - 1) (by omega)).2) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (left m c t.val t.isLt).1
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (left m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 6400000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = Phi m c (t.val + 1) t.isLt from rfl, Phi_succ]
  by_cases h : t.val % 8 = 0
  · rw [left_A m c t h]
    unfold leftA; (try dsimp only)
    by_cases hz : t.val = 0
    · rw [Phi_castSucc m c t, Phi_zero m c _ _ hz, PhiA_eq]
      iintro ⟨⟨⟨HX, HC⟩, Hg⟩, Ho, ⟨%d0, H0⟩, ⟨%d1, H1⟩, ⟨%d2, H2⟩, ⟨%d3, H3⟩, ⟨%d4, H4⟩, ⟨%d5, H5⟩⟩
      iapply ((ptA m c t h).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HX]; · iexact HX
      isplitl [HC]; · iexact HC
      iintro ⟨H0, H1, H2, H3, H4, ⟨%e5, H5⟩, ⟨%eX, HX⟩, HC⟩
      isplitl [HX HC Hg]
      · isplitl [HX HC]
        · isplitl [HX]
          · unfold owns; iexists _; iexists _; isplitr
            swap; · iexact HX
            ipureintro; rfl
          unfold owns; iexists _; isplitr
          swap; · iexact HC
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA m c t h)
    · rw [Phi_castSucc m c t, Phi_pos m c _ _ hz]
      iintro ⟨⟨⟨HX, HC⟩, Hg⟩, Ho, ⟨%d0, H0⟩, ⟨%d1, H1⟩, ⟨%d2, H2⟩, ⟨%d3, H3⟩, ⟨%d4, H4⟩, ⟨%d5, H5⟩⟩
      iapply ((ptA m c t h).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HX]; · iexact HX
      isplitl [HC]; · iexists _; iexact HC
      iintro ⟨H0, H1, H2, H3, H4, ⟨%e5, H5⟩, ⟨%eX, HX⟩, HC⟩
      isplitl [HX HC Hg]
      · isplitl [HX HC]
        · isplitl [HX]
          · unfold owns; iexists _; iexists _; isplitr
            swap; · iexact HX
            ipureintro; rfl
          unfold owns; iexists _; isplitr
          swap; · iexact HC
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA m c t h)
  · have hz : t.val ≠ 0 := fun hz => h (by rw [hz])
    · rw [left_B m c t h]
      unfold leftB; (try dsimp only)
      rw [Phi_castSucc m c t, Phi_pos m c _ _ hz]
      iintro ⟨⟨⟨HX, HC⟩, Hg⟩, Ho, ⟨%d0, H0⟩, ⟨%d1, H1⟩, ⟨%d2, H2⟩, ⟨%d3, H3⟩, ⟨%d4, H4⟩, ⟨%d5, H5⟩⟩
      iapply ((ptB m c t h _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HX]; · iexact HX
      isplitl [HC]; · iexact HC
      iintro ⟨H0, H1, H2, H3, H4, ⟨%e5, H5⟩, ⟨%eX, HX⟩, HC⟩
      isplitl [HX HC Hg]
      · isplitl [HX HC]
        · isplitl [HX]
          · unfold owns; iexists _; iexists _; isplitr
            swap; · iexact HX
            ipureintro; rfl
          unfold owns; iexists _; isplitr
          swap; · iexact HC
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverB m c t h _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = Phi m c t.val (Nat.le_of_lt_succ t.isLt) from rfl, Phi_pos m c _ _ ht, PhiA_eq]
  iintro ⟨⟨HX, HC⟩, Hg⟩
  isplitl [HX HC]
  · isplitl [HX]
    · iexact HX
    iexists _; iexact HC
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
/-- The launch: every array of the pipeline ends as the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Ssm

end
-- ==== Proof.Ssm.Pay.lean ====
/- One trip of the loop over the rows: the eight rows it leaves follow the linear recurrence, when what it reads is finite. -/
module

public import proofs.«01_k».proof.Proof.Gen.KernelIdeal.Skeleton
public import Idealize.ShloMosaic.Lib.Pipeline.ValueKit
public import Mathlib.Data.Complex.Basic

@[expose] public section

set_option maxRecDepth 16384

noncomputable section

open Idealize.ShloMosaic Idealize.ShloMosaic.TcCoe Idealize.SL.Sem

namespace Cert.KernelIdeal.Ssm
open Cert.KernelIdeal Cert.KernelIdeal.Gen

/-- The linear recurrence: the state after row `i`, of the state matrix `l`, the state `z0` before row 0 and the inputs `w`. -/
def seqC (l z0 : ℂ) (w : ℕ → ℂ) : ℕ → ℂ
  | 0 => l * z0 + w 0
  | i + 1 => l * seqC l z0 w i + w (i + 1)

/-- The recurrence goes on from the state a first stretch left. -/
theorem seqC_shift (l z0 : ℂ) (w : ℕ → ℂ) (n : ℕ) : ∀ i, seqC l (seqC l z0 w n) (fun k => w (n + 1 + k)) i = seqC l z0 w (n + 1 + i)
  | 0 => rfl
  | i + 1 => by
    show l * seqC l (seqC l z0 w n) (fun k => w (n + 1 + k)) i + w (n + 1 + (i + 1)) = _
    rw [seqC_shift l z0 w n i]; rfl

/-- The recurrence reads the inputs up to its own row only. -/
theorem seqC_congr (l z0 : ℂ) (w w' : ℕ → ℂ) : ∀ i, (∀ k ≤ i, w k = w' k) → seqC l z0 w i = seqC l z0 w' i
  | 0, h => by simp only [seqC, h 0 le_rfl]
  | i + 1, h => by
    simp only [seqC]
    rw [seqC_congr l z0 w w' i fun k hk => h k (Nat.le_succ_of_le hk), h (i + 1) le_rfl]

/-- A factor kept from row `s` on. -/
def msk (s : ℕ) (i : Fin 8) (u : ℂ) : ℂ := if s ≤ i.val then u else 0

theorem re_step (z u z' : ℂ) : (z.re : EReal) + (u.re : EReal) * (z'.re : EReal) - (u.im : EReal) * (z'.im : EReal) = ((z + u * z').re : EReal) := by
  rw [← EReal.coe_mul, ← EReal.coe_mul, ← EReal.coe_add, ← EReal.coe_sub]
  congr 1
  simp only [Complex.add_re, Complex.mul_re]; ring

theorem im_step (z u z' : ℂ) : (z.im : EReal) + (u.re : EReal) * (z'.im : EReal) + (u.im : EReal) * (z'.re : EReal) = ((z + u * z').im : EReal) := by
  rw [← EReal.coe_mul, ← EReal.coe_mul, ← EReal.coe_add, ← EReal.coe_add]
  congr 1
  simp only [Complex.add_im, Complex.mul_im]; ring

/-- One doubling step at a row. -/
def dbl (s : ℕ) (u : ℂ) (w : Fin 8 → ℂ) (i : Fin 8) : ℂ := w i + msk s i u * w ⟨(i.val + 8 - s) % 8, Nat.mod_lt _ (by decide)⟩

/-- The three doubling steps and the carried state are the recurrence. -/
theorem dbl_eq (l z0 : ℂ) (w : ℕ → ℂ) (i : Fin 8) :
    dbl 4 (l ^ 4) (dbl 2 (l ^ 2) (dbl 1 (l ^ 1) fun k => w k.val)) i + l ^ (i.val + 1) * z0 = seqC l z0 w i.val := by
  fin_cases i <;> simp [dbl, msk, seqC] <;> ring

section
variable (l z0 : ℂ) (w : ℕ → ℂ) (ch : Fin 512) (tab : Vec Ideal S1x8x8x512 .f32) (cr ci : Vec Ideal S1x512 .f32) (xr xi : Vec Ideal S8x512 .f32)
  (ht : ∀ i : Fin 8, tab (ix4 0 0 i ch) = ((msk 1 i (l ^ 1)).re : EReal) ∧ tab (ix4 0 1 i ch) = ((msk 1 i (l ^ 1)).im : EReal)
    ∧ tab (ix4 0 2 i ch) = ((msk 2 i (l ^ 2)).re : EReal) ∧ tab (ix4 0 3 i ch) = ((msk 2 i (l ^ 2)).im : EReal)
    ∧ tab (ix4 0 4 i ch) = ((msk 4 i (l ^ 4)).re : EReal) ∧ tab (ix4 0 5 i ch) = ((msk 4 i (l ^ 4)).im : EReal)
    ∧ tab (ix4 0 6 i ch) = ((l ^ (i.val + 1)).re : EReal) ∧ tab (ix4 0 7 i ch) = ((l ^ (i.val + 1)).im : EReal))
  (hx : ∀ i : Fin 8, xr (ix2 i ch) = ((w i.val).re : EReal) ∧ xi (ix2 i ch) = ((w i.val).im : EReal))
  (hc : cr (ix2 0 ch) = (z0.re : EReal) ∧ ci (ix2 0 ch) = (z0.im : EReal))

include ht hx in
theorem stage1 (i : Fin 8) :
    k0_pay6 (k0_pay19 tab) (k0_pay20 tab) xr xi (ix2 i ch) = ((dbl 1 (l ^ 1) (fun k => w k.val) i).re : EReal)
    ∧ k0_pay7 (k0_pay19 tab) (k0_pay20 tab) xr xi (ix2 i ch) = ((dbl 1 (l ^ 1) (fun k => w k.val) i).im : EReal) := by
  unfold dbl
  rw [← re_step, ← im_step]
  constructor
  · pointwise [k0_pay6, k0_pay4, k0_pay5, k0_pay19, k0_pay20, k0_pay18]
    rw [(ht i).1, (ht i).2.1, (hx i).1, (hx _).1, (hx _).2]
  · pointwise [k0_pay7, k0_pay4, k0_pay5, k0_pay19, k0_pay20, k0_pay18]
    rw [(ht i).1, (ht i).2.1, (hx i).2, (hx _).1, (hx _).2]

include ht hx in
theorem stage2 (i : Fin 8) :
    k0_pay10 (k0_pay19 tab) (k0_pay20 tab) (k0_pay21 tab) (k0_pay22 tab) xr xi (ix2 i ch)
      = ((dbl 2 (l ^ 2) (dbl 1 (l ^ 1) fun k => w k.val) i).re : EReal)
    ∧ k0_pay11 (k0_pay19 tab) (k0_pay20 tab) (k0_pay21 tab) (k0_pay22 tab) xr xi (ix2 i ch)
      = ((dbl 2 (l ^ 2) (dbl 1 (l ^ 1) fun k => w k.val) i).im : EReal) := by
  rw [dbl.eq_1 2, ← re_step, ← im_step]
  have h := stage1 l w ch tab xr xi ht hx
  constructor
  · pointwise [k0_pay10, k0_pay8, k0_pay9, k0_pay21, k0_pay22, k0_pay18]
    rw [(ht i).2.2.1, (ht i).2.2.2.1, (h i).1, (h _).1, (h _).2]
  · pointwise [k0_pay11, k0_pay8, k0_pay9, k0_pay21, k0_pay22, k0_pay18]
    rw [(ht i).2.2.1, (ht i).2.2.2.1, (h i).2, (h _).1, (h _).2]

include ht hx hc in
/-- The eight rows a trip leaves. -/
theorem rows (i : Fin 8) :
    k0_pay14 (k0_pay19 tab) (k0_pay20 tab) (k0_pay21 tab) (k0_pay22 tab) (k0_pay23 tab) (k0_pay24 tab) (k0_pay25 tab) (k0_pay26 tab)
      cr ci xr xi (ix2 i ch) = ((seqC l z0 w i.val).re : EReal)
    ∧ k0_pay15 (k0_pay19 tab) (k0_pay20 tab) (k0_pay21 tab) (k0_pay22 tab) (k0_pay23 tab) (k0_pay24 tab) (k0_pay25 tab) (k0_pay26 tab)
      cr ci xr xi (ix2 i ch) = ((seqC l z0 w i.val).im : EReal) := by
  rw [← dbl_eq, ← re_step, ← im_step, dbl.eq_1 4, ← re_step, ← im_step]
  have h := stage2 l w ch tab xr xi ht hx
  constructor
  · pointwise [k0_pay14, k0_pay12, k0_pay13, k0_pay23, k0_pay24, k0_pay25, k0_pay26, k0_pay18]
    rw [(ht i).2.2.2.2.1, (ht i).2.2.2.2.2.1, (ht i).2.2.2.2.2.2.1, (ht i).2.2.2.2.2.2.2, (h i).1, (h _).1, (h _).2, hc.1, hc.2]
  · pointwise [k0_pay15, k0_pay12, k0_pay13, k0_pay23, k0_pay24, k0_pay25, k0_pay26, k0_pay18]
    rw [(ht i).2.2.2.2.1, (ht i).2.2.2.2.2.1, (ht i).2.2.2.2.2.2.1, (ht i).2.2.2.2.2.2.2, (h i).2, (h _).1, (h _).2, hc.1, hc.2]
end

end Cert.KernelIdeal.Ssm
-- ==== Proof.Ssm.Loop.lean ====
/- The loop over the rows of a tile: what its 128 trips leave in the state scratch and carry on is the linear recurrence. -/
module

public import proofs.«01_k».proof.Proof.Ssm.Pay
public import proofs.«01_k».proof.Proof.Gen.KernelIdeal.Loops
public import Idealize.ShloMosaic.Lib.WritesUnit
public import Idealize.ShloMosaic.Lib.VecWindow

@[expose] public section

set_option maxRecDepth 16384

noncomputable section

open Idealize.ShloMosaic Idealize.ShloMosaic.TcCoe Idealize.SL.Sem

namespace Cert.KernelIdeal.Ssm
open Cert.KernelIdeal Cert.KernelIdeal.Gen

/-- A channel's column of real parts, and of imaginary parts, in the state scratch. -/
def colR (ch : Fin 512) : Fin 1024 := ⟨ch.val, by omega⟩
def colI (ch : Fin 512) : Fin 1024 := ⟨512 + ch.val, by omega⟩

theorem off1_eq : ∀ k : Fin k0_t1_loop.trips, k0_off1 k = ![8 * k.val, 0] := by decide +kernel
theorem off2_eq : ∀ k : Fin k0_t1_loop.trips, k0_off2 k = ![8 * k.val, 512] := by decide +kernel

abbrev Contents8 (v : View sig .tc .vmem S1024x1024 .f32) := v.ty.Contents (Elt Ideal)

/-- The eight rows of real parts, and of imaginary parts, a trip reads. -/
abbrev xrAt (v : View sig .tc .vmem S1024x1024 .f32) (f : Contents8 v) (k : Fin k0_t1_loop.trips) : Vec Ideal S8x512 .f32 :=
  v.readAt (Elt Ideal) (Rect.unit (s := S1024x1024) (k0_off1 k) S8x512.size (k0_off1_inb k)).toLoadRect f
abbrev xiAt (v : View sig .tc .vmem S1024x1024 .f32) (f : Contents8 v) (k : Fin k0_t1_loop.trips) : Vec Ideal S8x512 .f32 :=
  v.readAt (Elt Ideal) (Rect.unit (s := S1024x1024) (k0_off2 k) S8x512.size (k0_off2_inb k)).toLoadRect f

theorem xrAt_at (v : View sig .tc .vmem S1024x1024 .f32) (f : Contents8 v) (k : Fin k0_t1_loop.trips) (i : Fin 8) (ch : Fin 512) (r : Fin 1024) (hr : r.val = 8 * k.val + i.val) :
    xrAt v f k (ix2 i ch) = v.read (Elt Ideal) f (ix2 r (colR ch)) := by
  unfold xrAt
  rw [View.readAt_unit v f (k0_off1_inb k) (off1_eq k) (off1_eq k ▸ k0_off1_inb k)]
  refine congrArg (v.read (Elt Ideal) f) (funext fun a => Fin.ext ?_)
  match a with
  | 0 => show 8 * k.val + 1 * i.val = r.val; omega
  | 1 => show 0 + 1 * ch.val = ch.val; omega

theorem xiAt_at (v : View sig .tc .vmem S1024x1024 .f32) (f : Contents8 v) (k : Fin k0_t1_loop.trips) (i : Fin 8) (ch : Fin 512) (r : Fin 1024) (hr : r.val = 8 * k.val + i.val) :
    xiAt v f k (ix2 i ch) = v.read (Elt Ideal) f (ix2 r (colI ch)) := by
  unfold xiAt
  rw [View.readAt_unit v f (k0_off2_inb k) (off2_eq k) (off2_eq k ▸ k0_off2_inb k)]
  refine congrArg (v.read (Elt Ideal) f) (funext fun a => Fin.ext ?_)
  match a with
  | 0 => show 8 * k.val + 1 * i.val = r.val; omega
  | 1 => show 512 + 1 * ch.val = 512 + ch.val; omega

/-- The eight rows a trip computes. -/
abbrev trR (tab : Vec Ideal S1x8x8x512 .f32) (cr ci : Vec Ideal S1x512 .f32) (xr xi : Vec Ideal S8x512 .f32) : Vec Ideal S8x512 .f32 :=
  k0_pay14 (F := Ideal) (k0_pay19 tab) (k0_pay20 tab) (k0_pay21 tab) (k0_pay22 tab) (k0_pay23 tab) (k0_pay24 tab) (k0_pay25 tab) (k0_pay26 tab) cr ci xr xi
abbrev trI (tab : Vec Ideal S1x8x8x512 .f32) (cr ci : Vec Ideal S1x512 .f32) (xr xi : Vec Ideal S8x512 .f32) : Vec Ideal S8x512 .f32 :=
  k0_pay15 (F := Ideal) (k0_pay19 tab) (k0_pay20 tab) (k0_pay21 tab) (k0_pay22 tab) (k0_pay23 tab) (k0_pay24 tab) (k0_pay25 tab) (k0_pay26 tab) cr ci xr xi

/-- The loop's state: the carried row, and the pieces stored so far. -/
abbrev LoopSt := (Vec Ideal S1x512 .f32 × Vec Ideal S1x512 .f32) × List (View.Piece (Elt Ideal) S1024x1024 .f32)

/-- The state before row `n`. -/
def car (l z0 : ℂ) (w : ℕ → ℂ) : ℕ → ℂ
  | 0 => z0
  | n + 1 => seqC l z0 w n

theorem car_shift (l z0 : ℂ) (w : ℕ → ℂ) (n i : ℕ) : seqC l (car l z0 w n) (fun k => w (n + k)) i = seqC l z0 w (n + i) := by
  cases n with
  | zero => simp only [Nat.zero_add]; rfl
  | succ n => exact seqC_shift l z0 w n i

section

variable (v : View sig .tc .vmem S1024x1024 .f32) (G : Contents8 v) (tab : Vec Ideal S1x8x8x512 .f32) (init : Vec Ideal S1x512 .f32 × Vec Ideal S1x512 .f32)
  (st : ℕ → LoopSt) (h0 : st 0 = (init, []))
  (hs : ∀ k : Fin k0_t1_loop.trips, st (k.val + 1) =
    ((k0_pay29 (F := Ideal) (trR tab (st k.val).1.1 (st k.val).1.2 (xrAt v (v.writes (Elt Ideal) G (st k.val).2) k) (xiAt v (v.writes (Elt Ideal) G (st k.val).2) k)),
      k0_pay30 (F := Ideal) (trI tab (st k.val).1.1 (st k.val).1.2 (xrAt v (v.writes (Elt Ideal) G (st k.val).2) k) (xiAt v (v.writes (Elt Ideal) G (st k.val).2) k))),
     (⟨Rect.unit (s := S1024x1024) (k0_off2 k) S8x512.size (k0_off2_inb k), k0_pay28 (F := Ideal) (trI tab (st k.val).1.1 (st k.val).1.2 (xrAt v (v.writes (Elt Ideal) G (st k.val).2) k) (xiAt v (v.writes (Elt Ideal) G (st k.val).2) k))⟩ : View.Piece (Elt Ideal) S1024x1024 .f32)
     :: (⟨Rect.unit (s := S1024x1024) (k0_off1 k) S8x512.size (k0_off1_inb k), k0_pay27 (F := Ideal) (trR tab (st k.val).1.1 (st k.val).1.2 (xrAt v (v.writes (Elt Ideal) G (st k.val).2) k) (xiAt v (v.writes (Elt Ideal) G (st k.val).2) k))⟩ : View.Piece (Elt Ideal) S1024x1024 .f32)
     :: (st k.val).2))
  (l z0 : ℂ) (w : ℕ → ℂ) (ch : Fin 512)
  (ht : ∀ i : Fin 8, tab (ix4 0 0 i ch) = ((msk 1 i (l ^ 1)).re : EReal) ∧ tab (ix4 0 1 i ch) = ((msk 1 i (l ^ 1)).im : EReal)
    ∧ tab (ix4 0 2 i ch) = ((msk 2 i (l ^ 2)).re : EReal) ∧ tab (ix4 0 3 i ch) = ((msk 2 i (l ^ 2)).im : EReal)
    ∧ tab (ix4 0 4 i ch) = ((msk 4 i (l ^ 4)).re : EReal) ∧ tab (ix4 0 5 i ch) = ((msk 4 i (l ^ 4)).im : EReal)
    ∧ tab (ix4 0 6 i ch) = ((l ^ (i.val + 1)).re : EReal) ∧ tab (ix4 0 7 i ch) = ((l ^ (i.val + 1)).im : EReal))
  (hG : ∀ r : Fin 1024, v.read (Elt Ideal) G (ix2 r (colR ch)) = ((w r.val).re : EReal) ∧ v.read (Elt Ideal) G (ix2 r (colI ch)) = ((w r.val).im : EReal))
  (hi : init.1 (ix2 0 ch) = (z0.re : EReal) ∧ init.2 (ix2 0 ch) = (z0.im : EReal))

include h0 hs ht hG hi in
/-- Before trip `k`: the rows from `8k` on as they were, those before it the recurrence's states, the last of them carried. -/
theorem loop_ind : ∀ k : ℕ, k ≤ 128 →
    (∀ r : Fin 1024, v.read (Elt Ideal) (v.writes (Elt Ideal) G (st k).2) (ix2 r (colR ch)) = ((if r.val < 8 * k then seqC l z0 w r.val else w r.val).re : EReal)
      ∧ v.read (Elt Ideal) (v.writes (Elt Ideal) G (st k).2) (ix2 r (colI ch)) = ((if r.val < 8 * k then seqC l z0 w r.val else w r.val).im : EReal))
    ∧ (st k).1.1 (ix2 0 ch) = ((car l z0 w (8 * k)).re : EReal) ∧ (st k).1.2 (ix2 0 ch) = ((car l z0 w (8 * k)).im : EReal)
  | 0, _ => by
    rw [h0]
    exact ⟨fun r => hG r, hi⟩
  | k + 1, hk => by
    obtain ⟨IHr, IHc⟩ := loop_ind k (by omega)
    have e := hs (⟨k, by show k < 128; omega⟩ : Fin k0_t1_loop.trips)
    dsimp only at e
    have hrow := rows l (car l z0 w (8 * k)) (fun i => w (8 * k + i)) ch tab (st k).1.1 (st k).1.2
      (xrAt v (v.writes (Elt Ideal) G (st k).2) ⟨k, by show k < 128; omega⟩) (xiAt v (v.writes (Elt Ideal) G (st k).2) ⟨k, by show k < 128; omega⟩) ht
      (fun i => by
        have h := IHr ⟨8 * k + i.val, by omega⟩
        rw [xrAt_at v _ _ i ch ⟨8 * k + i.val, by omega⟩ rfl, xiAt_at v _ _ i ch ⟨8 * k + i.val, by omega⟩ rfl, h.1, h.2]
        simp) IHc
    simp only [car_shift] at hrow
    rw [e]
    refine ⟨fun r => ⟨?_, ?_⟩, ?_, ?_⟩
    · rw [View.read_writes_cons_unit_of_not_mem (size := ![8, 512]) v G _ _ _ _ (off2_eq _) 1 (Or.inl (by show ch.val < 512; omega))]
      by_cases h1 : r.val < 8 * k
      · rw [View.read_writes_cons_unit_of_not_mem (size := ![8, 512]) v G _ _ _ _ (off1_eq _) 0 (Or.inl h1), (IHr r).1, if_pos h1, if_pos (by omega)]
      by_cases h2 : r.val < 8 * (k + 1)
      · rw [View.read_writes_cons_unit_of_mem (size := ![8, 512]) v G _ _ _ _ (ix2 (⟨r.val - 8 * k, by omega⟩ : Fin 8) ch) (off1_eq _) (fun a => by
          match a with
          | 0 => show r.val = 8 * k + (r.val - 8 * k); omega
          | 1 => exact (Nat.zero_add _).symm), if_pos h2]
        have := (hrow ⟨r.val - 8 * k, by omega⟩).1
        rw [show 8 * k + (r.val - 8 * k) = r.val by omega] at this
        rw [← this]
        pointwise [k0_pay27]
      · rw [View.read_writes_cons_unit_of_not_mem (size := ![8, 512]) v G _ _ _ _ (off1_eq _) 0 (Or.inr (by show 8 * k + 8 ≤ r.val; omega)), (IHr r).1, if_neg h1, if_neg h2]
    · by_cases h1 : r.val < 8 * k
      · rw [View.read_writes_cons_unit_of_not_mem (size := ![8, 512]) v G _ _ _ _ (off2_eq _) 0 (Or.inl h1),
          View.read_writes_cons_unit_of_not_mem (size := ![8, 512]) v G _ _ _ _ (off1_eq _) 0 (Or.inl h1), (IHr r).2, if_pos h1, if_pos (by omega)]
      by_cases h2 : r.val < 8 * (k + 1)
      · rw [View.read_writes_cons_unit_of_mem (size := ![8, 512]) v G _ _ _ _ (ix2 (⟨r.val - 8 * k, by omega⟩ : Fin 8) ch) (off2_eq _) (fun a => by
          match a with
          | 0 => show r.val = 8 * k + (r.val - 8 * k); omega
          | 1 => rfl), if_pos h2]
        have := (hrow ⟨r.val - 8 * k, by omega⟩).2
        rw [show 8 * k + (r.val - 8 * k) = r.val by omega] at this
        rw [← this]
        pointwise [k0_pay28]
      · rw [View.read_writes_cons_unit_of_not_mem (size := ![8, 512]) v G _ _ _ _ (off2_eq _) 0 (Or.inr (by show 8 * k + 8 ≤ r.val; omega)),
          View.read_writes_cons_unit_of_not_mem (size := ![8, 512]) v G _ _ _ _ (off1_eq _) 0 (Or.inr (by show 8 * k + 8 ≤ r.val; omega)), (IHr r).2, if_neg h1, if_neg h2]
    · exact Eq.trans (by pointwise [k0_pay29]) (hrow 7).1
    · exact Eq.trans (by pointwise [k0_pay30]) (hrow 7).2

end

/-- The generated loop state, one trip on. -/
theorem st_step (𝒱 : Variants) (c : Dev nD) (bd : Option 𝒱.V) (i : grid0.Coords) (arg2 : Memref sig .tc .vmem S1024x128 .f32) (harg2 : arg2.IsWhole) (arg3 : Memref sig .tc .vmem S1x128x1024 .bf16) (harg3 : arg3.IsWhole) (arg4 : Memref sig .tc .vmem S1x1024x128 .bf16) (harg4 : arg4.IsWhole) (arg5 : Memref sig .tc .vmem S1x8x8x512 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x1024 .f32) (harg8 : arg8.IsWhole) (arg9 : Memref sig .tc .vmem S8x512 .f32) (harg9 : arg9.IsWhole) (tab : Vec Ideal S1x8x8x512 .f32) (G : Contents8 arg8.view) (init : Vec Ideal S1x512 .f32 × Vec Ideal S1x512 .f32)
    (l z0 : ℂ) (w : ℕ → ℂ) (ch : Fin 512)
    (ht : ∀ i : Fin 8, tab (ix4 0 0 i ch) = ((msk 1 i (l ^ 1)).re : EReal) ∧ tab (ix4 0 1 i ch) = ((msk 1 i (l ^ 1)).im : EReal)
      ∧ tab (ix4 0 2 i ch) = ((msk 2 i (l ^ 2)).re : EReal) ∧ tab (ix4 0 3 i ch) = ((msk 2 i (l ^ 2)).im : EReal)
      ∧ tab (ix4 0 4 i ch) = ((msk 4 i (l ^ 4)).re : EReal) ∧ tab (ix4 0 5 i ch) = ((msk 4 i (l ^ 4)).im : EReal)
      ∧ tab (ix4 0 6 i ch) = ((l ^ (i.val + 1)).re : EReal) ∧ tab (ix4 0 7 i ch) = ((l ^ (i.val + 1)).im : EReal))
    (hG : ∀ r : Fin 1024, arg8.view.read (Elt Ideal) G (ix2 r (colR ch)) = ((w r.val).re : EReal) ∧ arg8.view.read (Elt Ideal) G (ix2 r (colI ch)) = ((w r.val).im : EReal))
    (hi : init.1 (ix2 0 ch) = (z0.re : EReal) ∧ init.2 (ix2 0 ch) = (z0.im : EReal)) :
    (∀ r : Fin 1024, arg8.view.read (Elt Ideal) (arg8.view.writes (Elt Ideal) G (st_k0_t1 (F := Ideal) 𝒱 c bd i arg2 harg2 arg3 harg3 arg4 harg4 arg5 harg5 arg6 harg6 arg7 harg7 arg8 harg8 arg9 harg9 tab G init k0_t1_loop.trips).2) (ix2 r (colR ch)) = ((seqC l z0 w r.val).re : EReal)
      ∧ arg8.view.read (Elt Ideal) (arg8.view.writes (Elt Ideal) G (st_k0_t1 (F := Ideal) 𝒱 c bd i arg2 harg2 arg3 harg3 arg4 harg4 arg5 harg5 arg6 harg6 arg7 harg7 arg8 harg8 arg9 harg9 tab G init k0_t1_loop.trips).2) (ix2 r (colI ch)) = ((seqC l z0 w r.val).im : EReal))
    ∧ (st_k0_t1 (F := Ideal) 𝒱 c bd i arg2 harg2 arg3 harg3 arg4 harg4 arg5 harg5 arg6 harg6 arg7 harg7 arg8 harg8 arg9 harg9 tab G init k0_t1_loop.trips).1.1 (ix2 0 ch) = ((seqC l z0 w 1023).re : EReal)
    ∧ (st_k0_t1 (F := Ideal) 𝒱 c bd i arg2 harg2 arg3 harg3 arg4 harg4 arg5 harg5 arg6 harg6 arg7 harg7 arg8 harg8 arg9 harg9 tab G init k0_t1_loop.trips).1.2 (ix2 0 ch) = ((seqC l z0 w 1023).im : EReal) := by
  have h := loop_ind arg8.view G tab init (st_k0_t1 (F := Ideal) 𝒱 c bd i arg2 harg2 arg3 harg3 arg4 harg4 arg5 harg5 arg6 harg6 arg7 harg7 arg8 harg8 arg9 harg9 tab G init) rfl
    (fun k => by
      rw [st_k0_t1_succ]
      unfold tripR_k0_t1 tripL_k0_t1 trip_k0_t1 trip_k0_t1.sl.r trip_k0_t1.sl.r_1
      rfl) l z0 w ch ht hG hi 128 le_rfl
  refine ⟨fun r => ?_, h.2⟩
  have h' := h.1 r
  rw [if_pos (show r.val < 8 * 128 from r.isLt)] at h'
  exact h'

end Cert.KernelIdeal.Ssm
-- ==== Proof.Ssm.Point.lean ====
/- What a point of the kernel leaves: the tile of states follows the recurrence from the carried state, the last one is carried on. -/
module

public import proofs.«01_k».proof.Proof.Ssm.Frame
public import proofs.«01_k».proof.Proof.Ssm.Loop

@[expose] public section

set_option maxRecDepth 16384

noncomputable section

open Idealize.ShloMosaic Idealize.ShloMosaic.TcCoe Idealize.SL.Sem

namespace Cert.KernelIdeal.Ssm
open Cert.KernelIdeal Cert.KernelIdeal.Gen

variable (m : (ℓ : Loc nD τ sig) → Buf (Elt Ideal) ℓ)

/-- The table of one block holds the powers of `l` in channel `ch`. -/
def TabIs (tab : Vec Ideal S1x8x8x512 .f32) (l : ℂ) (ch : Fin 512) : Prop :=
  ∀ i : Fin 8, tab (ix4 0 0 i ch) = ((msk 1 i (l ^ 1)).re : EReal) ∧ tab (ix4 0 1 i ch) = ((msk 1 i (l ^ 1)).im : EReal)
    ∧ tab (ix4 0 2 i ch) = ((msk 2 i (l ^ 2)).re : EReal) ∧ tab (ix4 0 3 i ch) = ((msk 2 i (l ^ 2)).im : EReal)
    ∧ tab (ix4 0 4 i ch) = ((msk 4 i (l ^ 4)).re : EReal) ∧ tab (ix4 0 5 i ch) = ((msk 4 i (l ^ 4)).im : EReal)
    ∧ tab (ix4 0 6 i ch) = ((l ^ (i.val + 1)).re : EReal) ∧ tab (ix4 0 7 i ch) = ((l ^ (i.val + 1)).im : EReal)

/-- The rows of a state tile (the inputs, or the states) in channel `ch`. -/
def RowsAre (X : Vec Ideal S1024x1024 .f32) (w : ℕ → ℂ) (ch : Fin 512) : Prop :=
  ∀ r : Fin 1024, X (ix2 r (colR ch)) = ((w r.val).re : EReal) ∧ X (ix2 r (colI ch)) = ((w r.val).im : EReal)

/-- The carried state in channel `ch`. -/
def CarryIs (xs : Vec Ideal S8x512 .f32) (z : ℂ) (ch : Fin 512) : Prop := xs (ix2 0 ch) = (z.re : EReal) ∧ xs (ix2 1 ch) = (z.im : EReal)

/-- What a point leaves from the carried state `z0` of each channel. -/
def Leaves (c : Dev nD) (t : Fin cfg0.N) (xs : Vec Ideal S8x512 .f32) (o : Vec Ideal S1024x128 .f32 × Vec Ideal S8x512 .f32) : Prop :=
  ∃ X : Vec Ideal S1024x1024 .f32, o.1 = k0_pay3 (iblk m c 0 t) X (iblk m c 2 t) (iblk m c 4 t)
    ∧ ∀ (l z0 : ℂ) (w : ℕ → ℂ) (ch : Fin 512), TabIs (iblk m c 3 t) l ch → RowsAre (k0_pay17 (iblk m c 0 t) (iblk m c 1 t)) w ch → CarryIs xs z0 ch →
      RowsAre X (seqC l z0 w) ch ∧ CarryIs o.2 (seqC l z0 w 1023) ch

theorem carry_pieces (v : View sig .tc .vmem S8x512 .f32) (G : v.ty.Contents (Elt Ideal)) (L : List (View.Piece (Elt Ideal) S8x512 .f32))
    (a b : Vec Ideal S1x512 .f32) (z : ℂ) (ch : Fin 512) (ha : a (ix2 0 ch) = (z.re : EReal)) (hb : b (ix2 0 ch) = (z.im : EReal)) :
    CarryIs (v.read (Elt Ideal) (v.writes (Elt Ideal) G
      ((⟨Rect.unit (s := S8x512) ![1, 0] S1x512.size inb_S8x512_S1x512_1_0, k0_pay2 b⟩ : View.Piece (Elt Ideal) S8x512 .f32)
        :: (⟨Rect.unit (s := S8x512) ![0, 0] S1x512.size inb_S8x512_S1x512_0_0, k0_pay1 a⟩ : View.Piece (Elt Ideal) S8x512 .f32) :: L))) z ch := by
  constructor
  · rw [View.read_writes_cons_unit_of_not_mem (size := S1x512.size) v G _ _ _ _ rfl 0 (Or.inl (by show 0 < 1; omega)),
      View.read_writes_cons_unit_of_mem (size := S1x512.size) v G _ _ _ _ (ix2 (0 : Fin 1) ch) rfl (fun a => by
        match a with
        | 0 => rfl
        | 1 => exact (Nat.zero_add _).symm), ← ha]
    pointwise [k0_pay1]
  · rw [View.read_writes_cons_unit_of_mem (size := S1x512.size) v G _ _ _ _ (ix2 (0 : Fin 1) ch) rfl (fun a => by
        match a with
        | 0 => rfl
        | 1 => exact (Nat.zero_add _).symm), ← hb]
    pointwise [k0_pay2]

theorem row_read (v : View sig .tc .vmem S8x512 .f32) (f : v.ty.Contents (Elt Ideal)) (xs : Vec Ideal S8x512 .f32) (hf : v.read (Elt Ideal) f = xs) (z : ℂ) (ch : Fin 512) (h : CarryIs xs z ch) :
    v.readAt (Elt Ideal) (Rect.unit (s := S8x512) ![0, 0] S1x512.size inb_S8x512_S1x512_0_0).toLoadRect f (ix2 (0 : Fin 1) ch) = (z.re : EReal)
    ∧ v.readAt (Elt Ideal) (Rect.unit (s := S8x512) ![1, 0] S1x512.size inb_S8x512_S1x512_1_0).toLoadRect f (ix2 (0 : Fin 1) ch) = (z.im : EReal) := by
  subst hf
  refine ⟨Eq.trans ?_ h.1, Eq.trans ?_ h.2⟩
  · refine congrArg (v.read (Elt Ideal) f) (funext fun a => Fin.ext ?_)
    match a with
    | 0 => rfl
    | 1 => show 0 + 1 * ch.val = ch.val; omega
  · refine congrArg (v.read (Elt Ideal) f) (funext fun a => Fin.ext ?_)
    match a with
    | 0 => rfl
    | 1 => show 0 + 1 * ch.val = ch.val; omega

theorem leftA_at (c : Dev nD) (t : Fin cfg0.N) (h : t.val % 8 = 0) : Leaves m c t (fun _ => 0) (leftA m c t h) := by
  refine ⟨?X, ?out, ?rest⟩
  case out =>
    unfold leftA ptA runA
    dsimp only
    rw [View.read_writes_full]
    unfold runA.sl.r
    rw [View.readAt_full, View.readAt_full, View.readAt_full, Memref.IsWhole.read_unread, Memref.IsWhole.read_unread, Memref.IsWhole.read_unread]
  case rest =>
    intro l z0 w ch ht hw hz
    have hst := st_step Variants.none c none (grid0.coords t) (ms0 t) (hs0 t) (ms1 t) (hs1 t) (ms2 t) (hs2 t) (ms3 t) (hs3 t) (ms4 t) (hs4 t) (ms5 t) (hs5 t) scX (Memref.isWhole_whole _) scC (Memref.isWhole_whole _)
      (View.readAt (Elt Ideal) (ms3 t).view (Rect.unit ![0, 0, 0, 0] S1x8x8x512.size inb_S1x8x8x512_S1x8x8x512_0_0_0_0).toLoadRect ((hs3 t).unread (iblk m c 3 t)))
      (scX.view.writes (Elt Ideal) scX.view.junk (runA.sl.H8_1 c (ms0 t) (hs0 t) (ms1 t) (hs1 t) (iblk m c 0 t) (iblk m c 1 t)))
      (runA.sl.v29 c scC, runA.sl.v30 c scC) l z0 w ch
      (by rw [View.readAt_full, Memref.IsWhole.read_unread]; exact ht)
      (by
        unfold runA.sl.H8_1
        rw [View.read_writes_full]
        try unfold runA.sl.r
        rw [View.readAt_full, View.readAt_full, Memref.IsWhole.read_unread, Memref.IsWhole.read_unread]
        exact hw)
      (by
        unfold runA.sl.v29 runA.sl.v30 View.readCov
        dsimp only
        refine row_read scC.view (scC.view.writes (Elt Ideal) scC.view.junk runA.sl.H9_1) (fun _ => 0) ?_ z0 ch hz
        unfold runA.sl.H9_1
        rw [View.read_writes_full]
        funext y
        pointwise [k0_pay16])
    refine ⟨?_, ?_⟩
    · unfold runA.sl.v39 View.readCov
      rw [View.readAt_full, View.writes_append]
      exact hst.1
    · unfold leftA ptA runA
      dsimp only
      exact carry_pieces scC.view _ _ _ _ _ ch hst.2.1 hst.2.2

theorem leftB_at (c : Dev nD) (t : Fin cfg0.N) (h : ¬t.val % 8 = 0) (xs : Vec Ideal S8x512 .f32) : Leaves m c t xs (leftB m c t h xs) := by
  refine ⟨?X, ?out, ?rest⟩
  case out =>
    unfold leftB ptB runB
    dsimp only
    rw [View.read_writes_full]
    unfold runB.sl.r
    rw [View.readAt_full, View.readAt_full, View.readAt_full, Memref.IsWhole.read_unread, Memref.IsWhole.read_unread, Memref.IsWhole.read_unread]
  case rest =>
    intro l z0 w ch ht hw hz
    have hst := st_step Variants.none c none (grid0.coords t) (ms0 t) (hs0 t) (ms1 t) (hs1 t) (ms2 t) (hs2 t) (ms3 t) (hs3 t) (ms4 t) (hs4 t) (ms5 t) (hs5 t) scX (Memref.isWhole_whole _) scC (Memref.isWhole_whole _)
      (View.readAt (Elt Ideal) (ms3 t).view (Rect.unit ![0, 0, 0, 0] S1x8x8x512.size inb_S1x8x8x512_S1x8x8x512_0_0_0_0).toLoadRect ((hs3 t).unread (iblk m c 3 t)))
      (scX.view.writes (Elt Ideal) scX.view.junk (runB.sl.H8_1 c (ms0 t) (hs0 t) (ms1 t) (hs1 t) (iblk m c 0 t) (iblk m c 1 t)))
      (View.readAt (Elt Ideal) scC.view (Rect.unit (s := S8x512) ![0, 0] S1x512.size inb_S8x512_S1x512_0_0).toLoadRect ((Memref.isWhole_whole _ : scC.IsWhole).unread xs),
        View.readAt (Elt Ideal) scC.view (Rect.unit (s := S8x512) ![1, 0] S1x512.size inb_S8x512_S1x512_1_0).toLoadRect ((Memref.isWhole_whole _ : scC.IsWhole).unread xs)) l z0 w ch
      (by rw [View.readAt_full, Memref.IsWhole.read_unread]; exact ht)
      (by
        unfold runB.sl.H8_1
        rw [View.read_writes_full]
        try unfold runB.sl.r
        rw [View.readAt_full, View.readAt_full, Memref.IsWhole.read_unread, Memref.IsWhole.read_unread]
        exact hw)
      (by
        dsimp only
        exact row_read scC.view _ xs (Memref.IsWhole.read_unread _ _) z0 ch hz)
    refine ⟨?_, ?_⟩
    · unfold runB.sl.v39 View.readCov
      rw [View.readAt_full, View.writes_append]
      exact hst.1
    · unfold leftB ptB runB
      dsimp only
      exact carry_pieces scC.view _ _ _ _ _ ch hst.2.1 hst.2.2

end Cert.KernelIdeal.Ssm
-- ==== Proof.Ssm.Host.lean ====
/- What the host code before the launch prepares: the block-diagonal input and output matrices and the table of the powers of the
   state matrix, as terms over the arguments and the discretized parameters. -/
module

public import proofs.«01_k».proof.Proof.Gen.KernelIdeal.Frame
public import proofs.«01_k».proof.Proof.Gen.ReferenceIdeal.Step
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

namespace Cert.KernelIdeal.Ssm
open Cert.KernelIdeal Cert.KernelIdeal.Gen

/-- The identity matrix of the eight groups of one block. -/
def eyeT : FVec Ideal S8x8 .f32 :=
  uitofp .f32 (cmpi .eq (addi (iotaInDim S8x8 32 0) (broadcastInDim S8x8 ![] bcast_S_S8x8 (constantI S_ 32 0#32))) (iotaInDim S8x8 32 1))

/-- One half of the block-diagonal input matrices. -/
def inT (B : FVec Ideal S128x64x16 .f32) : FVec Ideal S16x128x512 .f32 :=
  shapeCast S16x128x512 (mulf
    (broadcastInDim S16x8x16x8x64 ![0, 1, 2, 3, 4] bcast_S16x8x16x1x64_S16x8x16x8x64_0_1_2_3_4
      (broadcastInDim S16x8x16x1x64 ![0, 1, 2, 4] bcast_S16x8x16x64_S16x8x16x1x64_0_1_2_4
        (shapeCast S16x8x16x64 (transpose S128x16x64 [0, 2, 1] B transposes_S128x64x16_S128x16x64_0_2_1) shapeCasts_S128x16x64_S16x8x16x64)))
    (broadcastInDim S16x8x16x8x64 ![0, 1, 2, 3, 4] bcast_S1x8x1x8x1_S16x8x16x8x64_0_1_2_3_4
      (broadcastInDim S1x8x1x8x1 ![1, 3] bcast_S8x8_S1x8x1x8x1_1_3 eyeT))) shapeCasts_S16x8x16x8x64_S16x128x512

/-- The input matrices: the real half, then the imaginary half. -/
def bbT (B C : FVec Ideal S128x64x16 .f32) : FVec Ideal S16x128x1024 .bf16 :=
  truncf .bf16 (concatenate S16x128x1024 2 [⟨S16x128x512, inT B⟩, ⟨S16x128x512, inT C⟩] concatenates_S16x128x512_S16x128x512_S16x128x1024_d2)
    bitsLt_bf16_f32

/-- One half of the block-diagonal output matrices. -/
def outT (C : FVec Ideal S128x16x64 .f32) : FVec Ideal S16x512x128 .f32 :=
  shapeCast S16x512x128 (mulf
    (broadcastInDim S16x8x64x8x16 ![0, 1, 2, 3, 4] bcast_S16x8x64x1x16_S16x8x64x8x16_0_1_2_3_4
      (broadcastInDim S16x8x64x1x16 ![0, 1, 2, 4] bcast_S16x8x64x16_S16x8x64x1x16_0_1_2_4
        (shapeCast S16x8x64x16 (transpose S128x64x16 [0, 2, 1] C transposes_S128x16x64_S128x64x16_0_2_1) shapeCasts_S128x64x16_S16x8x64x16)))
    (broadcastInDim S16x8x64x8x16 ![0, 1, 2, 3, 4] bcast_S1x8x1x8x1_S16x8x64x8x16_0_1_2_3_4
      (broadcastInDim S1x8x1x8x1 ![1, 3] bcast_S8x8_S1x8x1x8x1_1_3 eyeT))) shapeCasts_S16x8x64x8x16_S16x512x128

/-- The output matrices: the real half, then the negated imaginary half. -/
def cdT (C D : FVec Ideal S128x16x64 .f32) : FVec Ideal S16x1024x128 .bf16 :=
  truncf .bf16 (concatenate S16x1024x128 1 [⟨S16x512x128, outT C⟩, ⟨S16x512x128, Host.negf (outT D)⟩]
    concatenates_S16x512x128_S16x512x128_S16x1024x128_d1) bitsLt_bf16_f32

/-- The powers of the state matrix: number `k` is the power `k + 1`, real part and imaginary part. -/
def pw (X Y : FVec Ideal S128x64 .f32) : ℕ → FVec Ideal S128x64 .f32 × FVec Ideal S128x64 .f32
  | 0 => (X, Y)
  | k + 1 => (subf (mulf (pw X Y k).1 X) (mulf (pw X Y k).2 Y), addf (mulf (pw X Y k).1 Y) (mulf (pw X Y k).2 X))

/-- Eight arrays stacked, and laid out by blocks of eight groups. -/
def stackT (p : ℕ → FVec Ideal S128x64 .f32) : FVec Ideal S16x8x512 .f32 :=
  transpose S16x8x512 [1, 0, 2] (shapeCast S8x16x512 (concatenate S8x128x64 0
    [⟨S1x128x64, broadcastInDim S1x128x64 ![1, 2] bcast_S128x64_S1x128x64_1_2 (p 0)⟩,
     ⟨S1x128x64, broadcastInDim S1x128x64 ![1, 2] bcast_S128x64_S1x128x64_1_2 (p 1)⟩,
     ⟨S1x128x64, broadcastInDim S1x128x64 ![1, 2] bcast_S128x64_S1x128x64_1_2 (p 2)⟩,
     ⟨S1x128x64, broadcastInDim S1x128x64 ![1, 2] bcast_S128x64_S1x128x64_1_2 (p 3)⟩,
     ⟨S1x128x64, broadcastInDim S1x128x64 ![1, 2] bcast_S128x64_S1x128x64_1_2 (p 4)⟩,
     ⟨S1x128x64, broadcastInDim S1x128x64 ![1, 2] bcast_S128x64_S1x128x64_1_2 (p 5)⟩,
     ⟨S1x128x64, broadcastInDim S1x128x64 ![1, 2] bcast_S128x64_S1x128x64_1_2 (p 6)⟩,
     ⟨S1x128x64, broadcastInDim S1x128x64 ![1, 2] bcast_S128x64_S1x128x64_1_2 (p 7)⟩]
    concatenates_S1x128x64_S1x128x64_S1x128x64_S1x128x64_S1x128x64_S1x128x64_S1x128x64_S1x128x64_S8x128x64_d0)
    shapeCasts_S8x128x64_S8x16x512) transposes_S8x16x512_S16x8x512_1_0_2

/-- One power kept in the rows from number `s` on, zero above. -/
def maskT (s : BitVec 32) (P : FVec Ideal S16x1x512 .f32) : FVec Ideal S16x8x512 .f32 :=
  select (broadcastInDim S16x8x512 ![0, 1, 2] bcast_S1x8x1_S16x8x512_0_1_2
      (cmpi .sge (broadcastInDim S1x8x1 ![1] bcast_S8_S1x8x1_1 (iotaInDim S8 32 0)) (broadcastInDim S1x8x1 ![] bcast_S_S1x8x1 (constantI S_ 32 s))))
    (broadcastInDim S16x8x512 ![0, 1, 2] bcast_S16x1x512_S16x8x512_0_1_2 P)
    (broadcastInDim S16x8x512 ![] bcast_S_S16x8x512 (constant S_ .f32 0x00000000#32))

/-- The eight kinds of table rows of every block. -/
def tabT (R I : FVec Ideal S16x8x512 .f32) : FVec Ideal S16x8x8x512 .f32 :=
  concatenate S16x8x8x512 1
    [⟨S16x1x8x512, broadcastInDim S16x1x8x512 ![0, 2, 3] bcast_S16x8x512_S16x1x8x512_0_2_3
        (maskT 1#32 (extractStridedSlice S16x1x512 ![0, 0, 0] R slices_S16x8x512_S16x1x512_0_0_0))⟩,
     ⟨S16x1x8x512, broadcastInDim S16x1x8x512 ![0, 2, 3] bcast_S16x8x512_S16x1x8x512_0_2_3
        (maskT 1#32 (extractStridedSlice S16x1x512 ![0, 0, 0] I slices_S16x8x512_S16x1x512_0_0_0))⟩,
     ⟨S16x1x8x512, broadcastInDim S16x1x8x512 ![0, 2, 3] bcast_S16x8x512_S16x1x8x512_0_2_3
        (maskT 2#32 (extractStridedSlice S16x1x512 ![0, 1, 0] R slices_S16x8x512_S16x1x512_0_1_0))⟩,
     ⟨S16x1x8x512, broadcastInDim S16x1x8x512 ![0, 2, 3] bcast_S16x8x512_S16x1x8x512_0_2_3
        (maskT 2#32 (extractStridedSlice S16x1x512 ![0, 1, 0] I slices_S16x8x512_S16x1x512_0_1_0))⟩,
     ⟨S16x1x8x512, broadcastInDim S16x1x8x512 ![0, 2, 3] bcast_S16x8x512_S16x1x8x512_0_2_3
        (maskT 4#32 (extractStridedSlice S16x1x512 ![0, 3, 0] R slices_S16x8x512_S16x1x512_0_3_0))⟩,
     ⟨S16x1x8x512, broadcastInDim S16x1x8x512 ![0, 2, 3] bcast_S16x8x512_S16x1x8x512_0_2_3
        (maskT 4#32 (extractStridedSlice S16x1x512 ![0, 3, 0] I slices_S16x8x512_S16x1x512_0_3_0))⟩,
     ⟨S16x1x8x512, broadcastInDim S16x1x8x512 ![0, 2, 3] bcast_S16x8x512_S16x1x8x512_0_2_3 R⟩,
     ⟨S16x1x8x512, broadcastInDim S16x1x8x512 ![0, 2, 3] bcast_S16x8x512_S16x1x8x512_0_2_3 I⟩]
    concatenates_S16x1x8x512_S16x1x8x512_S16x1x8x512_S16x1x8x512_S16x1x8x512_S16x1x8x512_S16x1x8x512_S16x1x8x512_S16x8x8x512_d1

variable (m : (ℓ : Loc nD τ sig) → Buf (Elt Ideal) ℓ) (c : Dev nD)

/-! The discretized parameters, over the arguments. -/

abbrev LR : FVec Ideal S128x64 .f32 := Cert.ReferenceIdeal.Step.A_main_v11 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
abbrev LI : FVec Ideal S128x64 .f32 := Cert.ReferenceIdeal.Step.A_main_v15 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
abbrev BR : FVec Ideal S128x64x16 .f32 := Cert.ReferenceIdeal.Step.A_main_v37 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
abbrev BI : FVec Ideal S128x64x16 .f32 := Cert.ReferenceIdeal.Step.A_main_v44 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem V_bb : V m c main_v68 = bbT (BR m c) (BI m c) := by
  unfold V
  after_reads_simp
  rfl

theorem V_cd : V m c main_v87 = cdT (m ((c : Thread nD τ).loc main_arg6)) (m ((c : Thread nD τ).loc main_arg7)) := by
  unfold V
  after_reads_simp
  rfl

theorem V_d : V m c main_v187 = shapeCast S1x2048 (shapeCast S2048 (m ((c : Thread nD τ).loc main_arg8)) shapeCasts_S128x16_S2048)
    shapeCasts_S2048_S1x2048 := by
  unfold V
  after_reads_simp
  rfl

end Cert.KernelIdeal.Ssm
-- ==== Proof.Ssm.HostTab.lean ====
/- The table of the powers of the state matrix, as the host code before the launch prepares it. -/
module

public import proofs.«01_k».proof.Proof.Gen.KernelIdeal.Frame
public import proofs.«01_k».proof.Proof.Gen.ReferenceIdeal.Step
public import proofs.«01_k».proof.Proof.Ssm.Host
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

namespace Cert.KernelIdeal.Ssm
open Cert.KernelIdeal Cert.KernelIdeal.Gen

set_option maxHeartbeats 2000000 in
set_option pp.maxSteps 300 in
/-- The table, of the stacked powers. -/
theorem tab_of (W : Valuation τ sig (Elt Ideal)) :
    StableHlo.after (List.drop 156 (hostOps0 (F := Ideal)) ++ List.flatten [hostOps0_1, hostOps0_2, hostOps0_3, hostOps0_4, hostOps0_5,
      hostOps0_6, hostOps0_7, hostOps0_8, hostOps0_9, hostOps0_10, hostOps0_11, hostOps0_12]) W (Proc.devRef .tc main_v186)
    = tabT (W (Proc.devRef .tc main_v140)) (W (Proc.devRef .tc main_v151)) := by
  after_reads_simp
  rfl

set_option maxHeartbeats 2000000 in
set_option pp.maxSteps 300 in
/-- The stacked powers, of the two parts of the state matrix. -/
theorem stack_re (W : Valuation τ sig (Elt Ideal)) :
    StableHlo.after (List.drop 17 (List.take 156 (hostOps0 (F := Ideal)))) W (Proc.devRef .tc main_v140)
    = stackT fun k => (pw (W (Proc.devRef .tc main_v11)) (W (Proc.devRef .tc main_v15)) k).1 := by
  after_reads_simp
  rfl

set_option maxHeartbeats 2000000 in
set_option pp.maxSteps 300 in
theorem stack_im (W : Valuation τ sig (Elt Ideal)) :
    StableHlo.after (List.drop 17 (List.take 156 (hostOps0 (F := Ideal)))) W (Proc.devRef .tc main_v151)
    = stackT fun k => (pw (W (Proc.devRef .tc main_v11)) (W (Proc.devRef .tc main_v15)) k).2 := by
  after_reads_simp
  rfl

variable (m : (ℓ : Loc nD τ sig) → Buf (Elt Ideal) ℓ) (c : Dev nD)

theorem V_tab : V m c main_v186 = tabT (stackT fun k => (pw (LR m c) (LI m c) k).1) (stackT fun k => (pw (LR m c) (LI m c) k).2) := by
  have e : List.flatten [hostOps0 (F := Ideal), hostOps0_1, hostOps0_2, hostOps0_3, hostOps0_4, hostOps0_5, hostOps0_6, hostOps0_7,
      hostOps0_8, hostOps0_9, hostOps0_10, hostOps0_11, hostOps0_12] = List.take 17 (List.take 156 hostOps0)
      ++ (List.drop 17 (List.take 156 hostOps0) ++ (List.drop 156 hostOps0 ++ List.flatten [hostOps0_1, hostOps0_2, hostOps0_3, hostOps0_4, hostOps0_5,
      hostOps0_6, hostOps0_7, hostOps0_8, hostOps0_9, hostOps0_10, hostOps0_11, hostOps0_12])) := by
    rw [← List.append_assoc, List.take_append_drop, ← List.append_assoc, List.take_append_drop]; rfl
  show StableHlo.after _ _ _ = _
  rw [e, StableHlo.after_append, StableHlo.after_append, tab_of, stack_re, stack_im]
  have h1 : StableHlo.after (List.take 17 (List.take 156 (hostOps0 (F := Ideal)))) (fun b => m (c, b)) (Proc.devRef .tc main_v11) = LR m c := by
    after_reads_simp
    rfl
  have h2 : StableHlo.after (List.take 17 (List.take 156 (hostOps0 (F := Ideal)))) (fun b => m (c, b)) (Proc.devRef .tc main_v15) = LI m c := by
    after_reads_simp
    rfl
  rw [h1, h2]

end Cert.KernelIdeal.Ssm
-- ==== Proof.Ssm.HostVal.lean ====
/- The prepared matrices and tables, entry by entry. -/
module

public import proofs.«01_k».proof.Proof.Ssm.Host
public import proofs.«01_k».proof.Proof.Ssm.Pay
public import Idealize.ShloMosaic.Lib.Pipeline.ValueKit

@[expose] public section

set_option maxRecDepth 16384

noncomputable section

open Idealize.ShloMosaic Idealize.ShloMosaic.TcCoe Idealize.SL.Sem

namespace Cert.KernelIdeal.Ssm
open Cert.KernelIdeal Cert.KernelIdeal.Gen

/-- The group of a channel of a block. -/
def grp (b : Fin 16) (ch : Fin 512) : Fin 128 := ⟨b.val * 8 + ch.val / 64, by omega⟩
/-- The state number of a channel of a block. -/
def sta (ch : Fin 512) : Fin 64 := ⟨ch.val % 64, Nat.mod_lt _ (by decide)⟩
/-- The group of a lane of a block. -/
def lgrp (b : Fin 16) (l : Fin 128) : Fin 128 := ⟨b.val * 8 + l.val / 16, by omega⟩
/-- The place of a lane in its group. -/
def lane (l : Fin 128) : Fin 16 := ⟨l.val % 16, Nat.mod_lt _ (by decide)⟩

theorem eyeT_at (i j : Fin 8) : eyeT (ix2 i j) = if i.val = j.val then (1 : EReal) else 0 := by
  pointwise [eyeT]
  fin_cases i <;> fin_cases j <;> simp [IntOp.cmpi, IntOp.addi, FloatOps.uitofp]

theorem inT_at (B : FVec Ideal S128x64x16 .f32) (b : Fin 16) (l : Fin 128) (ch : Fin 512) :
    inT B (ix3 b l ch) = if l.val / 16 = ch.val / 64 then B (ix3 (lgrp b l) (sta ch) (lane l)) else (0 : EReal) := by
  pointwise [inT]
  rw [eyeT_at]
  show _ * (if l.val / 16 = ch.val / 64 then (1 : EReal) else 0) = _
  split
  · exact mul_one _
  · exact mul_zero _

theorem outT_at (C : FVec Ideal S128x16x64 .f32) (b : Fin 16) (ch : Fin 512) (l : Fin 128) :
    outT C (ix3 b ch l) = if ch.val / 64 = l.val / 16 then C (ix3 (grp b ch) (lane l) (sta ch)) else (0 : EReal) := by
  pointwise [outT]
  rw [eyeT_at]
  show _ * (if ch.val / 64 = l.val / 16 then (1 : EReal) else 0) = _
  split
  · exact mul_one _
  · exact mul_zero _

theorem bbT_re (B C : FVec Ideal S128x64x16 .f32) (b : Fin 16) (l : Fin 128) (ch : Fin 512) :
    bbT B C (ix3 b l ⟨ch.val, by omega⟩) = if l.val / 16 = ch.val / 64 then B (ix3 (lgrp b l) (sta ch) (lane l)) else (0 : EReal) := by
  pointwise [bbT]
  exact inT_at B b l ch

theorem bbT_im (B C : FVec Ideal S128x64x16 .f32) (b : Fin 16) (l : Fin 128) (ch : Fin 512) :
    bbT B C (ix3 b l ⟨512 + ch.val, by omega⟩) = if l.val / 16 = ch.val / 64 then C (ix3 (lgrp b l) (sta ch) (lane l)) else (0 : EReal) := by
  pointwise [bbT]
  exact inT_at C b l ch

theorem cdT_re (C D : FVec Ideal S128x16x64 .f32) (b : Fin 16) (l : Fin 128) (ch : Fin 512) :
    cdT C D (ix3 b ⟨ch.val, by omega⟩ l) = if ch.val / 64 = l.val / 16 then C (ix3 (grp b ch) (lane l) (sta ch)) else (0 : EReal) := by
  pointwise [cdT]
  exact outT_at C b ch l

theorem cdT_im (C D : FVec Ideal S128x16x64 .f32) (b : Fin 16) (l : Fin 128) (ch : Fin 512) :
    cdT C D (ix3 b ⟨512 + ch.val, by omega⟩ l) = if ch.val / 64 = l.val / 16 then -D (ix3 (grp b ch) (lane l) (sta ch)) else (0 : EReal) := by
  pointwise [cdT]
  have h := outT_at D b ch l
  simp only [h]
  split
  · rfl
  · exact neg_zero

theorem stackT_at (p : ℕ → FVec Ideal S128x64 .f32) (b : Fin 16) (i : Fin 8) (ch : Fin 512) :
    stackT p (ix3 b i ch) = p i.val (ix2 (grp b ch) (sta ch)) := by
  pointwise [stackT]
  fin_cases i <;> rfl

theorem mask1 (P) (b : Fin 16) (i : Fin 8) (ch : Fin 512) : maskT 1#32 P (ix3 b i ch) = if 1 ≤ i.val then P (ix3 b 0 ch) else (0 : EReal) := by
  pointwise [maskT]
  fin_cases i <;> rfl
theorem mask2 (P) (b : Fin 16) (i : Fin 8) (ch : Fin 512) : maskT 2#32 P (ix3 b i ch) = if 2 ≤ i.val then P (ix3 b 0 ch) else (0 : EReal) := by
  pointwise [maskT]
  fin_cases i <;> rfl
theorem mask4 (P) (b : Fin 16) (i : Fin 8) (ch : Fin 512) : maskT 4#32 P (ix3 b i ch) = if 4 ≤ i.val then P (ix3 b 0 ch) else (0 : EReal) := by
  pointwise [maskT]
  fin_cases i <;> rfl

section
variable (X Y : FVec Ideal S128x64 .f32) (lam : Fin 128 → Fin 64 → ℂ)
  (hl : ∀ g p, X (ix2 g p) = ((lam g p).re : EReal) ∧ Y (ix2 g p) = ((lam g p).im : EReal))

include hl in
theorem pw_at (g : Fin 128) (p : Fin 64) : ∀ k, (pw X Y k).1 (ix2 g p) = ((lam g p ^ (k + 1)).re : EReal)
    ∧ (pw X Y k).2 (ix2 g p) = ((lam g p ^ (k + 1)).im : EReal)
  | 0 => by simpa [pw] using hl g p
  | k + 1 => by
    have h := pw_at g p k
    have e := hl g p
    constructor
    · show (pw X Y k).1 (ix2 g p) * X (ix2 g p) - (pw X Y k).2 (ix2 g p) * Y (ix2 g p) = _
      rw [h.1, h.2, e.1, e.2, pow_succ (lam g p) (k + 1), Complex.mul_re, ← EReal.coe_mul, ← EReal.coe_mul, ← EReal.coe_sub]
    · show (pw X Y k).1 (ix2 g p) * Y (ix2 g p) + (pw X Y k).2 (ix2 g p) * X (ix2 g p) = _
      rw [h.1, h.2, e.1, e.2, pow_succ (lam g p) (k + 1), Complex.mul_im, ← EReal.coe_mul, ← EReal.coe_mul, ← EReal.coe_add]

/-- The table a block reads. -/
abbrev TAB : FVec Ideal S16x8x8x512 .f32 := tabT (stackT fun k => (pw X Y k).1) (stackT fun k => (pw X Y k).2)

include hl in
theorem tab_at (b : Fin 16) (ch : Fin 512) (i : Fin 8) :
    TAB X Y (ix4 b 0 i ch) = ((msk 1 i (lam (grp b ch) (sta ch) ^ 1)).re : EReal)
    ∧ TAB X Y (ix4 b 1 i ch) = ((msk 1 i (lam (grp b ch) (sta ch) ^ 1)).im : EReal)
    ∧ TAB X Y (ix4 b 2 i ch) = ((msk 2 i (lam (grp b ch) (sta ch) ^ 2)).re : EReal)
    ∧ TAB X Y (ix4 b 3 i ch) = ((msk 2 i (lam (grp b ch) (sta ch) ^ 2)).im : EReal)
    ∧ TAB X Y (ix4 b 4 i ch) = ((msk 4 i (lam (grp b ch) (sta ch) ^ 4)).re : EReal)
    ∧ TAB X Y (ix4 b 5 i ch) = ((msk 4 i (lam (grp b ch) (sta ch) ^ 4)).im : EReal)
    ∧ TAB X Y (ix4 b 6 i ch) = ((lam (grp b ch) (sta ch) ^ (i.val + 1)).re : EReal)
    ∧ TAB X Y (ix4 b 7 i ch) = ((lam (grp b ch) (sta ch) ^ (i.val + 1)).im : EReal) := by
  have h := pw_at X Y lam hl (grp b ch) (sta ch)
  refine ⟨?_, ?_, ?_, ?_, ?_, ?_, ?_, ?_⟩ <;> pointwise [TAB, tabT]
  · rw [mask1, msk]; pointwise; rw [stackT_at]; split
    · exact (h 0).1
    · simp
  · rw [mask1, msk]; pointwise; rw [stackT_at]; split
    · exact (h 0).2
    · simp
  · rw [mask2, msk]; pointwise; rw [stackT_at]; split
    · exact (h 1).1
    · simp
  · rw [mask2, msk]; pointwise; rw [stackT_at]; split
    · exact (h 1).2
    · simp
  · rw [mask4, msk]; pointwise; rw [stackT_at]; split
    · exact (h 3).1
    · simp
  · rw [mask4, msk]; pointwise; rw [stackT_at]; split
    · exact (h 3).2
    · simp
  · rw [stackT_at]; exact (h i.val).1
  · rw [stackT_at]; exact (h i.val).2
end

end Cert.KernelIdeal.Ssm
-- ==== Proof.Ssm.Blocks.lean ====
/- The blocks a point of the kernel reads, of the argument arrays. -/
module

public import proofs.«01_k».proof.Proof.Ssm.Point
public import proofs.«01_k».proof.Proof.Ssm.HostTab
public import proofs.«01_k».proof.Proof.Ssm.HostVal
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.KernelIdeal.Ssm
open Cert.KernelIdeal Cert.KernelIdeal.Gen

variable (m : (ℓ : Loc nD τ sig) → Buf (Elt Ideal) ℓ)

theorem idx : ∀ t : Fin cfg0.N, win0_0.index t = ![t.val % 8, t.val / 8] ∧ win0_1.index t = ![t.val / 8, 0, 0]
    ∧ win0_2.index t = ![t.val / 8, 0, 0] ∧ win0_3.index t = ![t.val / 8, 0, 0, 0] ∧ win0_4.index t = ![0, t.val / 8]
    ∧ win0_5.index t = ![t.val % 8, t.val / 8] :=
  (by decide +kernel : ∀ t : Fin grid0.N, _)

/-- The block of groups of a point, its row of the array and its column. -/
def blkB (t : Fin cfg0.N) : Fin 16 := ⟨t.val / 8, by have h : t.val < 128 := t.isLt; omega⟩
def rowT (t : Fin cfg0.N) (r : Fin 1024) : Fin 8192 := ⟨1024 * (t.val % 8) + r.val, by omega⟩
def colT (t : Fin cfg0.N) (l : Fin 128) : Fin 2048 := ⟨128 * (t.val / 8) + l.val, by have h : t.val < 128 := t.isLt; omega⟩

theorem u_at (c : Dev nD) (t : Fin cfg0.N) (r : Fin 1024) (l : Fin 128) :
    iblk m c 0 t (ix2 r l) = m ((c : Thread nD τ).loc main_arg0) (ix2 (rowT t r) (colT t l)) := by
  blk_point [iblk, V, idx t, rowT, colT]

theorem bb_at (c : Dev nD) (t : Fin cfg0.N) (l : Fin 128) (k : Fin 1024) :
    iblk m c 1 t (ix3 0 l k) = V m c main_v68 (ix3 (blkB t) l k) := by
  blk_point [iblk, idx t, blkB]

theorem cd_at (c : Dev nD) (t : Fin cfg0.N) (l : Fin 128) (k : Fin 1024) :
    iblk m c 2 t (ix3 0 k l) = V m c main_v87 (ix3 (blkB t) k l) := by
  blk_point [iblk, idx t, blkB]

theorem tab_blk (c : Dev nD) (t : Fin cfg0.N) (k i : Fin 8) (ch : Fin 512) :
    iblk m c 3 t (ix4 0 k i ch) = V m c main_v186 (ix4 (blkB t) k i ch) := by
  blk_point [iblk, idx t, blkB]

theorem d_at (c : Dev nD) (t : Fin cfg0.N) (l : Fin 128) :
    iblk m c 4 t (ix2 0 l) = V m c main_v187 (ix2 0 (colT t l)) := by
  blk_point [iblk, idx t, colT]

end Cert.KernelIdeal.Ssm
-- ==== Proof.Ssm.States.lean ====
/- What the points leave: the tiles of states are the rows of the linear recurrence over all rows, its inputs the products with the input matrix. -/
module

public import proofs.«01_k».proof.Proof.Ssm.Blocks

@[expose] public section

set_option maxRecDepth 16384

noncomputable section

open Idealize.ShloMosaic Idealize.ShloMosaic.TcCoe Idealize.SL.Sem

namespace Cert.KernelIdeal.Ssm
open Cert.KernelIdeal Cert.KernelIdeal.Gen

variable (m : (ℓ : Loc nD τ sig) → Buf (Elt Ideal) ℓ)

/-- A sum whose terms vanish outside one of `n` stretches of length `k`. -/
theorem sum_stretch (n k : ℕ) (f : Fin (n * k) → EReal) (j : Fin n) (h : ∀ i : Fin (n * k), i.val / k ≠ j.val → f i = 0) :
    ∑ i, f i = ∑ p : Fin k, f ⟨k * j.val + p.val, by have := (finProdFinEquiv (j, p)).isLt; simp only [finProdFinEquiv_apply_val] at this; omega⟩ := by
  rw [← finProdFinEquiv.sum_comp, Fintype.sum_prod_type, Finset.sum_eq_single j]
  · refine Finset.sum_congr rfl fun p _ => congrArg f (Fin.ext ?_)
    rw [finProdFinEquiv_apply_val]; exact Nat.add_comm _ _
  · intro i _ hij
    refine Finset.sum_eq_zero fun p _ => h _ ?_
    rw [finProdFinEquiv_apply_val]
    have hk : 0 < k := Nat.lt_of_le_of_lt (Nat.zero_le _) p.isLt
    rw [show p.val + k * i.val = p.val + i.val * k by rw [Nat.mul_comm], Nat.add_mul_div_right _ _ hk, Nat.div_eq_of_lt p.isLt, Nat.zero_add]
    exact fun e => hij (Fin.ext e)
  · intro hj; exact absurd (Finset.mem_univ j) hj

/-- The column of a group's place, and the input of a state at a row. -/
def ucol (g : Fin 128) (h : Fin 16) : Fin 2048 := ⟨16 * g.val + h.val, by omega⟩
def BU (B : FVec Ideal S128x64x16 .f32) (u : FVec Ideal S8192x2048 .f32) (T : Fin 8192) (g : Fin 128) (p : Fin 64) : EReal :=
  ∑ h : Fin 16, u (ix2 T (ucol g h)) * B (ix3 g p h)

theorem bu_block (u : FVec Ideal S8192x2048 .f32) (B : FVec Ideal S128x64x16 .f32) (t : Fin cfg0.N) (r : Fin 1024) (ch : Fin 512) :
    (∑ l : Fin 128, u (ix2 (rowT t r) (colT t l)) * (if l.val / 16 = ch.val / 64 then B (ix3 (lgrp (blkB t) l) (sta ch) (lane l)) else (0 : EReal)))
      = BU B u (rowT t r) (grp (blkB t) ch) (sta ch) := by
  have hb : ch.val / 64 < 8 := by omega
  refine (sum_stretch 8 16 (fun l : Fin 128 => u (ix2 (rowT t r) (colT t l)) * (if l.val / 16 = ch.val / 64 then B (ix3 (lgrp (blkB t) l) (sta ch) (lane l)) else (0 : EReal)))
    ⟨ch.val / 64, hb⟩ (fun l hl => by rw [if_neg hl, mul_zero])).trans ?_
  unfold BU
  refine Finset.sum_congr rfl fun h _ => ?_
  dsimp only
  rw [if_pos (by omega)]
  congr 2
  · refine congrArg _ (Fin.ext ?_)
    show 128 * (t.val / 8) + (16 * (ch.val / 64) + h.val) = 16 * (t.val / 8 * 8 + ch.val / 64) + h.val
    omega
  · have e1 : lgrp (blkB t) ⟨16 * (ch.val / 64) + h.val, by omega⟩ = grp (blkB t) ch := Fin.ext (by
      show t.val / 8 * 8 + (16 * (ch.val / 64) + h.val) / 16 = t.val / 8 * 8 + ch.val / 64; omega)
    have e2 : lane ⟨16 * (ch.val / 64) + h.val, by omega⟩ = h := Fin.ext (by
      show (16 * (ch.val / 64) + h.val) % 16 = h.val; omega)
    rw [e1, e2]

theorem in_re (c : Dev nD) (t : Fin cfg0.N) (r : Fin 1024) (ch : Fin 512) :
    k0_pay17 (iblk m c 0 t) (iblk m c 1 t) (ix2 r (colR ch)) = BU (BR m c) (m ((c : Thread nD τ).loc main_arg0)) (rowT t r) (grp (blkB t) ch) (sta ch) := by
  rw [← bu_block]
  pointwise [k0_pay17]
  refine Finset.sum_congr rfl fun l _ => ?_
  exact congrArg₂ (· * ·) (u_at m c t r l) ((bb_at m c t l (colR ch)).trans ((congrFun (V_bb m c) _).trans (bbT_re _ _ _ _ ch)))

theorem in_im (c : Dev nD) (t : Fin cfg0.N) (r : Fin 1024) (ch : Fin 512) :
    k0_pay17 (iblk m c 0 t) (iblk m c 1 t) (ix2 r (colI ch)) = BU (BI m c) (m ((c : Thread nD τ).loc main_arg0)) (rowT t r) (grp (blkB t) ch) (sta ch) := by
  rw [← bu_block]
  pointwise [k0_pay17]
  refine Finset.sum_congr rfl fun l _ => ?_
  exact congrArg₂ (· * ·) (u_at m c t r l) ((bb_at m c t l (colI ch)).trans ((congrFun (V_bb m c) _).trans (bbT_im _ _ _ _ ch)))

section

variable (c : Dev nD) (lam : Fin 128 → Fin 64 → ℂ) (w : Fin 128 → Fin 64 → ℕ → ℂ)
  (hl : ∀ g p, LR m c (ix2 g p) = ((lam g p).re : EReal) ∧ LI m c (ix2 g p) = ((lam g p).im : EReal))
  (hw : ∀ (T : Fin 8192) g p, BU (BR m c) (m ((c : Thread nD τ).loc main_arg0)) T g p = ((w g p T.val).re : EReal)
    ∧ BU (BI m c) (m ((c : Thread nD τ).loc main_arg0)) T g p = ((w g p T.val).im : EReal))

include hl in
theorem tabIs (t : Fin cfg0.N) (ch : Fin 512) : TabIs (iblk m c 3 t) (lam (grp (blkB t) ch) (sta ch)) ch := by
  intro i
  have h := tab_at (LR m c) (LI m c) lam hl (blkB t) ch i
  have e : ∀ k : Fin 8, iblk m c 3 t (ix4 0 k i ch) = TAB (LR m c) (LI m c) (ix4 (blkB t) k i ch) := fun k =>
    (tab_blk m c t k i ch).trans (congrFun (V_tab m c) _)
  refine ⟨(e 0).trans h.1, (e 1).trans h.2.1, (e 2).trans h.2.2.1, (e 3).trans h.2.2.2.1, (e 4).trans h.2.2.2.2.1, (e 5).trans h.2.2.2.2.2.1, (e 6).trans h.2.2.2.2.2.2.1, (e 7).trans h.2.2.2.2.2.2.2⟩

include hw in
theorem rowsIn (t : Fin cfg0.N) (ch : Fin 512) :
    RowsAre (k0_pay17 (iblk m c 0 t) (iblk m c 1 t)) (fun r => w (grp (blkB t) ch) (sta ch) (1024 * (t.val % 8) + r)) ch := fun r =>
  ⟨(in_re m c t r ch).trans (hw (rowT t r) _ _).1, (in_im m c t r ch).trans (hw (rowT t r) _ _).2⟩

/-- The states of a channel of a point's block. -/
abbrev chan (t : Fin cfg0.N) (ch : Fin 512) : ℕ → ℂ := seqC (lam (grp (blkB t) ch) (sta ch)) 0 (w (grp (blkB t) ch) (sta ch))

include hl hw in
/-- Every point leaves the recurrence's states of its rows. -/
theorem states : ∀ (n : ℕ) (hn : n < cfg0.N), ∃ X : Vec Ideal S1024x1024 .f32,
    (left m c n hn).1 = k0_pay3 (iblk m c 0 ⟨n, hn⟩) X (iblk m c 2 ⟨n, hn⟩) (iblk m c 4 ⟨n, hn⟩)
    ∧ ∀ ch : Fin 512, RowsAre X (fun r => chan lam w ⟨n, hn⟩ ch (1024 * (n % 8) + r)) ch
      ∧ CarryIs (left m c n hn).2 (chan lam w ⟨n, hn⟩ ch (1024 * (n % 8) + 1023)) ch := by
  intro n
  induction n with
  | zero =>
    intro hn
    obtain ⟨X, h1, h2⟩ := leftA_at m c ⟨0, hn⟩ (Nat.zero_mod _)
    refine ⟨X, h1, fun ch => ?_⟩
    have h := h2 _ 0 _ ch (tabIs m c lam hl _ ch) (rowsIn m c w hw _ ch) ⟨rfl, rfl⟩
    simp only [Nat.zero_mod, Nat.mul_zero, Nat.zero_add] at h ⊢
    exact h
  | succ n ih =>
    intro hn
    by_cases h0 : (n + 1) % 8 = 0
    · obtain ⟨X, h1, h2⟩ := leftA_at m c ⟨n + 1, hn⟩ h0
      rw [left_A m c ⟨n + 1, hn⟩ h0]
      refine ⟨X, h1, fun ch => ?_⟩
      have h := h2 _ 0 _ ch (tabIs m c lam hl _ ch) (rowsIn m c w hw _ ch) ⟨rfl, rfl⟩
      simp only [h0, Nat.mul_zero, Nat.zero_add] at h ⊢
      exact h
    · obtain ⟨X, h1, h2⟩ := leftB_at m c ⟨n + 1, hn⟩ h0 (left m c n (Nat.lt_of_succ_lt hn)).2
      rw [left_B m c ⟨n + 1, hn⟩ h0]
      refine ⟨X, h1, fun ch => ?_⟩
      obtain ⟨_, _, hc⟩ := ih (Nat.lt_of_succ_lt hn)
      have hb : blkB ⟨n, Nat.lt_of_succ_lt hn⟩ = blkB ⟨n + 1, hn⟩ := Fin.ext (by show n / 8 = (n + 1) / 8; omega)
      have hcar := (hc ch).2
      unfold chan at hcar
      rw [hb, show seqC (lam (grp (blkB ⟨n + 1, hn⟩) ch) (sta ch)) 0 (w (grp (blkB ⟨n + 1, hn⟩) ch) (sta ch)) (1024 * (n % 8) + 1023)
        = car (lam (grp (blkB ⟨n + 1, hn⟩) ch) (sta ch)) 0 (w (grp (blkB ⟨n + 1, hn⟩) ch) (sta ch)) (1024 * (n % 8) + 1023 + 1) from rfl,
        show 1024 * (n % 8) + 1023 + 1 = 1024 * ((n + 1) % 8) by omega] at hcar
      have h := h2 _ _ _ ch (tabIs m c lam hl _ ch) (rowsIn m c w hw _ ch) hcar
      simp only [RowsAre, CarryIs, car_shift] at h
      exact h

end

end Cert.KernelIdeal.Ssm
-- ==== Proof.Ssm.RefVal.lean ====
/- What the reference's scan leaves: the rows of the two state arrays are the states of the linear recurrence. -/
module

public import proofs.«01_k».proof.Proof.Ssm.RefRun
public import proofs.«01_k».proof.Proof.Ssm.Loop
public import Idealize.ShloMosaic.Lib.Pipeline.ValueKit

@[expose] public section

set_option maxRecDepth 16384

noncomputable section

open Idealize.ShloMosaic Idealize.ShloMosaic.TcCoe Idealize.SL.Sem

namespace Cert.ReferenceIdeal.SsmVal
open Cert.ReferenceIdeal Cert.ReferenceIdeal.Gen Cert.ReferenceIdeal.Step
open Cert.KernelIdeal.Ssm (seqC car)

/-- The loop's states, one trip after another. -/
def iter {F : FTy → Type} [FloatOps F] (s : State F) : ℕ → State F
  | 0 => s
  | n + 1 => step n (iter s n)

theorem start_row (n : ℕ) (hn : n < 8192) : (BitVec.ofNat 32 n).toInt = (n : ℤ) := by
  rw [BitVec.toInt_ofNat', Int.bmod_eq_of_le] <;> omega

theorem slice_row {α : Type} (x : S8192x128x64.Idx → α) (start : Fin 3 → Int) (h : S8192x128x64.Slices (fun _ => 0) S1x128x64) (n : Fin 8192) (h0 : start 0 = n.val) (h1 : start 1 = 0) (h2 : start 2 = 0)
    (g : Fin 128) (p : Fin 64) : Host.dynamicSlice S1x128x64 x start h (ix3 0 g p) = x (ix3 n g p) := by
  rw [Host.dynamicSlice_apply]
  refine congrArg x (funext fun a => Fin.ext ?_)
  match a with
  | 0 =>
    have := Host.clampedStart_of_le (s := S8192x128x64) (t := S1x128x64) h.1 start 0 n.val h0 (by show n.val + 1 ≤ 8192; omega)
    show Host.clampedStart S8192x128x64 S1x128x64 _ start 0 + 0 = n.val
    rw [this, Nat.add_zero]
  | 1 =>
    have := Host.clampedStart_of_le (s := S8192x128x64) (t := S1x128x64) h.1 start 1 0 h1 (by show 0 + 128 ≤ 128; omega)
    show Host.clampedStart S8192x128x64 S1x128x64 _ start 1 + g.val = g.val
    rw [this, Nat.zero_add]
  | 2 =>
    have := Host.clampedStart_of_le (s := S8192x128x64) (t := S1x128x64) h.1 start 2 0 h2 (by show 0 + 64 ≤ 64; omega)
    show Host.clampedStart S8192x128x64 S1x128x64 _ start 2 + p.val = p.val
    rw [this, Nat.zero_add]

theorem update_row {α : Type} (x : S8192x128x64.Idx → α) (upd : S1x128x64.Idx → α) (start : Fin 3 → Int) (h : S8192x128x64.Slices (fun _ => 0) S1x128x64) (n : Fin 8192) (h0 : start 0 = n.val) (h1 : start 1 = 0) (h2 : start 2 = 0)
    (j : Fin 8192) (g : Fin 128) (p : Fin 64) : Host.dynamicUpdateSlice x upd start h (ix3 j g p) = if j = n then upd (ix3 0 g p) else x (ix3 j g p) := by
  have e0 := Host.clampedStart_of_le (s := S8192x128x64) (t := S1x128x64) h.1 start 0 n.val h0 (by show n.val + 1 ≤ 8192; omega)
  have e1 := Host.clampedStart_of_le (s := S8192x128x64) (t := S1x128x64) h.1 start 1 0 h1 (by show 0 + 128 ≤ 128; omega)
  have e2 := Host.clampedStart_of_le (s := S8192x128x64) (t := S1x128x64) h.1 start 2 0 h2 (by show 0 + 64 ≤ 64; omega)
  rw [Host.dynamicUpdateSlice_apply]
  by_cases hj : j = n
  · subst hj
    rw [if_pos rfl, dif_pos (fun a => by
      match a with
      | 0 => exact ⟨by rw [e0]; exact le_rfl, by rw [e0]; exact Nat.lt_succ_self _⟩
      | 1 => exact ⟨by rw [e1]; exact Nat.zero_le _, by rw [e1, Nat.zero_add]; exact g.isLt⟩
      | 2 => exact ⟨by rw [e2]; exact Nat.zero_le _, by rw [e2, Nat.zero_add]; exact p.isLt⟩)]
    refine congrArg upd (funext fun a => Fin.ext ?_)
    match a with
    | 0 => show j.val - Host.clampedStart S8192x128x64 S1x128x64 _ start 0 = 0; rw [e0, Nat.sub_self]
    | 1 => show g.val - Host.clampedStart S8192x128x64 S1x128x64 _ start 1 = g.val; rw [e1, Nat.sub_zero]
    | 2 => show p.val - Host.clampedStart S8192x128x64 S1x128x64 _ start 2 = p.val; rw [e2, Nat.sub_zero]
  · rw [if_neg hj, dif_neg (fun hall => hj ?_)]
    have h00 := hall 0
    rw [e0] at h00
    have h1 : n.val ≤ j.val := h00.1
    have h2 : j.val < n.val + 1 := h00.2
    exact Fin.ext (by omega)

section

variable (s : State Ideal) (g : Fin 128) (p : Fin 64) (l : ℂ) (w : ℕ → ℂ)
  (hr : s.main_v52_5 (ix2 g p) = 0) (hi : s.main_v52_6 (ix2 g p) = 0)
  (hl : s.main_v52_2 (ix2 g p) = (l.re : EReal) ∧ s.main_v52_3 (ix2 g p) = (l.im : EReal))
  (hw : ∀ n : Fin 8192, s.main_v52_0 (ix3 n g p) = ((w n.val).re : EReal) ∧ s.main_v52_1 (ix3 n g p) = ((w n.val).im : EReal))

theorem iter_const : ∀ n, (iter s n).main_v52_0 = s.main_v52_0 ∧ (iter s n).main_v52_1 = s.main_v52_1 ∧ (iter s n).main_v52_2 = s.main_v52_2 ∧ (iter s n).main_v52_3 = s.main_v52_3
  | 0 => ⟨rfl, rfl, rfl, rfl⟩
  | n + 1 => iter_const n

theorem car_succ (l z0 : ℂ) (w : ℕ → ℂ) (n : ℕ) : car l z0 w (n + 1) = l * car l z0 w n + w n := by
  cases n <;> rfl

theorem re_eq (z u v : ℂ) : (u.re : EReal) * (z.re : EReal) - (u.im : EReal) * (z.im : EReal) + (v.re : EReal) = ((u * z + v).re : EReal) := by
  rw [← EReal.coe_mul, ← EReal.coe_mul, ← EReal.coe_sub, ← EReal.coe_add]
  congr 1; simp only [Complex.add_re, Complex.mul_re]
theorem im_eq (z u v : ℂ) : (u.re : EReal) * (z.im : EReal) + (u.im : EReal) * (z.re : EReal) + (v.im : EReal) = ((u * z + v).im : EReal) := by
  rw [← EReal.coe_mul, ← EReal.coe_mul, ← EReal.coe_add, ← EReal.coe_add]
  congr 1; simp only [Complex.add_im, Complex.mul_im]

include hr hi hl hw in
/-- After `n` trips the carried state and the first `n` rows are the recurrence's. -/
theorem iter_at : ∀ n : ℕ, n ≤ 8192 →
    ((iter s n).main_v52_5 (ix2 g p) = ((car l 0 w n).re : EReal) ∧ (iter s n).main_v52_6 (ix2 g p) = ((car l 0 w n).im : EReal))
    ∧ ∀ j : Fin 8192, j.val < n → (iter s n).main_v52_7 (ix3 j g p) = ((seqC l 0 w j.val).re : EReal) ∧ (iter s n).main_v52_8 (ix3 j g p) = ((seqC l 0 w j.val).im : EReal)
  | 0, _ => ⟨⟨hr.trans rfl, hi.trans rfl⟩, fun j hj => absurd hj (Nat.not_lt_zero _)⟩
  | n + 1, hn => by
    obtain ⟨⟨IHr, IHi⟩, IHj⟩ := iter_at n (by omega)
    obtain ⟨c0, c1, c2, c3⟩ := iter_const s n
    have hb3 : b3 n (iter s n) (ix2 g p) = ((w n).re : EReal) := by
      refine Eq.trans ?_ (hw ⟨n, hn⟩).1
      rw [← c0]
      pointwise [b3]
      unfold b2
      exact slice_row _ _ _ ⟨n, hn⟩ (start_row n hn) rfl rfl g p
    have hb7 : b7 n (iter s n) (ix2 g p) = ((w n).im : EReal) := by
      refine Eq.trans ?_ (hw ⟨n, hn⟩).2
      rw [← c1]
      pointwise [b7]
      unfold b6
      exact slice_row _ _ _ ⟨n, hn⟩ (start_row n hn) rfl rfl g p
    have hb11 : b11 n (iter s n) (ix2 g p) = ((car l 0 w (n + 1)).re : EReal) := by
      pointwise [b11, b10, b9, b8]
      rw [hb3, c2, c3, hl.1, hl.2, IHr, IHi, car_succ]
      exact re_eq _ _ _
    have hb15 : b15 n (iter s n) (ix2 g p) = ((car l 0 w (n + 1)).im : EReal) := by
      pointwise [b15, b14, b13, b12]
      rw [hb7, c2, c3, hl.1, hl.2, IHr, IHi, car_succ]
      exact im_eq _ _ _
    refine ⟨⟨hb11, hb15⟩, fun j hj => ⟨?_, ?_⟩⟩
    · show b19 n (iter s n) (ix3 j g p) = _
      unfold b19
      rw [update_row _ _ _ _ ⟨n, hn⟩ (start_row n hn) rfl rfl]
      split
      · rename_i e; subst e
        pointwise [b16]
        exact hb11
      · rename_i e
        exact (IHj j (by have : j.val ≠ n := fun h => e (Fin.ext h); omega)).1
    · show b23 n (iter s n) (ix3 j g p) = _
      unfold b23
      rw [update_row _ _ _ _ ⟨n, hn⟩ (start_row n hn) rfl rfl]
      split
      · rename_i e; subst e
        pointwise [b20]
        exact hb15
      · rename_i e
        exact (IHj j (by have : j.val ≠ n := fun h => e (Fin.ext h); omega)).2

end

end Cert.ReferenceIdeal.SsmVal
-- ==== Proof.Ssm.Finite.lean ====
/- From finite arguments, every entry of the discretized system (the state matrix and the input matrix) is a real number. -/
module

public import proofs.«01_k».proof.Proof.Gen.Pre_finite
public import proofs.«01_k».proof.Proof.Gen.ReferenceIdeal.Step
public import Idealize.ShloMosaic.Lib.ReduceAll
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem
open Cert.ReferenceIdeal.Step

namespace Cert.KernelIdeal.Ssm

/-- A real number. -/
def Rl (x : EReal) : Prop := ∃ r : ℝ, x = (r : EReal)

theorem Rl.add {x y : EReal} : Rl x → Rl y → Rl (x + y)
  | ⟨a, ha⟩, ⟨b, hb⟩ => ⟨a + b, by rw [ha, hb, EReal.coe_add]⟩
theorem Rl.sub {x y : EReal} : Rl x → Rl y → Rl (x - y)
  | ⟨a, ha⟩, ⟨b, hb⟩ => ⟨a - b, by rw [ha, hb, EReal.coe_sub]⟩
theorem Rl.mul {x y : EReal} : Rl x → Rl y → Rl (x * y)
  | ⟨a, ha⟩, ⟨b, hb⟩ => ⟨a * b, by rw [ha, hb, EReal.coe_mul]⟩
theorem Rl.exp {x : EReal} : Rl x → Rl (Ideal.exp x)
  | ⟨a, ha⟩ => ⟨Real.exp a, by rw [ha, Ideal.exp_coe]⟩
theorem Rl.sin {x : EReal} : Rl x → Rl (Ideal.sin x)
  | ⟨a, ha⟩ => ⟨Real.sin a, by rw [ha, Ideal.sin_coe]⟩
theorem Rl.cos {x : EReal} : Rl x → Rl (Ideal.cos x)
  | ⟨a, ha⟩ => ⟨Real.cos a, by rw [ha, Ideal.cos_coe]⟩
theorem Rl.sum {ι : Type} (s : Finset ι) (f : ι → EReal) (h : ∀ i, Rl (f i)) : Rl (∑ i ∈ s, f i) := by
  exact Finset.sum_induction f Rl (fun _ _ => Rl.add) ⟨0, rfl⟩ fun i _ => h i

theorem Rl.of_abs {x : EReal} (h : max x (-x) < ⊤) : Rl x := by
  induction x with
  | bot => simp at h
  | top => simp at h
  | coe r => exact ⟨r, rfl⟩

theorem cst_inf : Ideal.ofBits .f32 0x7F800000#32 = ⊤ := by
  simp [Ideal.ofBits, Ideal.ieee]

theorem cst_neg : ∃ r : ℝ, r < 0 ∧ Ideal.ofBits .f32 0xB8D1B717#32 = (r : EReal) := by
  refine ⟨_, ?_, by simp [Ideal.ofBits, Ideal.ieee]; rfl⟩
  norm_num

instance : Subsingleton Cert.Pre_finite.S_.Idx := ⟨fun a b => funext fun k => k.elim0⟩

theorem real_of_all {s : Shape} (x : FVec Ideal s .f32) (hb : Cert.Pre_finite.S_.BroadcastsInDim s ![]) {axes : List (Fin s.rank)} (hr : s.ReducesTo axes Cert.Pre_finite.S_) (init : Cert.Pre_finite.S_.Idx → BitVec 1) (hu) (j)
    (h : Host.reduce IntOp.andi (cmpf .olt (Host.absf x) (broadcastInDim s ![] hb (constant (F := Ideal) Cert.Pre_finite.S_ .f32 0x7F800000#32))) init hr hu j = 1#1) (i : s.Idx) : Rl (x i) := by
  have h1 := Host.reduce_andi_all _ _ _ _ j h i
  pointwise at h1
  refine Rl.of_abs ?_
  rw [← cst_inf]
  by_contra hc
  rw [Ideal.absf_def] at h1
  simp [hc] at h1

theorem and_one : ∀ a b : BitVec 1, IntOp.andi a b = 1#1 → a = 1#1 ∧ b = 1#1 := by decide

/-- The precondition says that every entry of every argument is a real number. -/
theorem args_real [Cert.Pre_finite.Facts] (a0 a1 a2 a3 a4 a5 a6 a7 a8) (h : Cert.Pre_finite.fn (F := Ideal) a0 a1 a2 a3 a4 a5 a6 a7 a8 = fun _ => 1#1) :
    (∀ i, Rl (a0 i)) ∧ (∀ i, Rl (a1 i)) ∧ (∀ i, Rl (a2 i)) ∧ (∀ i, Rl (a3 i)) ∧ (∀ i, Rl (a4 i)) ∧ (∀ i, Rl (a5 i)) ∧ (∀ i, Rl (a6 i)) ∧ (∀ i, Rl (a7 i)) ∧ (∀ i, Rl (a8 i)) := by
  have e := congrFun h ix0
  unfold Cert.Pre_finite.fn Cert.Pre_finite.fn_part1 Cert.Pre_finite.fn_part2 at e
  dsimp only at e
  obtain ⟨e, e8⟩ := and_one _ _ e
  obtain ⟨e, e7⟩ := and_one _ _ e
  obtain ⟨e, e6⟩ := and_one _ _ e
  obtain ⟨e, e5⟩ := and_one _ _ e
  obtain ⟨e, e4⟩ := and_one _ _ e
  obtain ⟨e, e3⟩ := and_one _ _ e
  obtain ⟨e, e2⟩ := and_one _ _ e
  obtain ⟨e0, e1⟩ := and_one _ _ e
  exact ⟨real_of_all a0 _ _ _ _ _ e0, real_of_all a1 _ _ _ _ _ e1, real_of_all a2 _ _ _ _ _ e2, real_of_all a3 _ _ _ _ _ e3, real_of_all a4 _ _ _ _ _ e4,
    real_of_all a5 _ _ _ _ _ e5, real_of_all a6 _ _ _ _ _ e6, real_of_all a7 _ _ _ _ _ e7, real_of_all a8 _ _ _ _ _ e8⟩

section

variable (a0 : (⟨Cert.ReferenceIdeal.S8192x2048, .f32⟩ : BufTy).Contents (Elt Ideal)) (a1 a2 : (⟨Cert.ReferenceIdeal.S128x64, .f32⟩ : BufTy).Contents (Elt Ideal))
  (a3 : (⟨Cert.ReferenceIdeal.S128, .f32⟩ : BufTy).Contents (Elt Ideal)) (a4 a5 : (⟨Cert.ReferenceIdeal.S128x64x16, .f32⟩ : BufTy).Contents (Elt Ideal))
  (h1 : ∀ i, Rl (a1 i)) (h2 : ∀ i, Rl (a2 i)) (h3 : ∀ i, Rl (a3 i)) (h4 : ∀ i, Rl (a4 i)) (h5 : ∀ i, Rl (a5 i))

include h1 in
/-- The real part of the continuous state matrix is a negative real number. -/
theorem lam_neg (g : Fin 128) (p : Fin 64) : ∃ r : ℝ, r < 0 ∧ A_main_v2 (F := Ideal) a0 a1 a2 a3 a4 a5 (ix2 g p) = (r : EReal) := by
  obtain ⟨a, ha⟩ := h1 (ix2 g p)
  obtain ⟨b, hb, e⟩ := cst_neg
  refine ⟨min a b, lt_of_le_of_lt (min_le_right _ _) hb, ?_⟩
  pointwise [A_main_v2, K_main_v1, K_main_cst]
  rw [e, ha]
  exact (EReal.coe_strictMono.monotone.map_min).symm

include h1 h2 h3 in
theorem LR_real (g : Fin 128) (p : Fin 64) : Rl (A_main_v11 (F := Ideal) a0 a1 a2 a3 a4 a5 (ix2 g p)) := by
  obtain ⟨r, _, e⟩ := lam_neg a0 a1 a2 a3 a4 a5 h1 g p
  pointwise [A_main_v11, A_main_v10, A_main_v9, A_main_v8, A_main_v7, A_main_v6, A_main_v5, A_main_v4, A_main_v3]
  rw [e]
  exact (Rl.exp (Rl.mul ⟨r, rfl⟩ (Rl.exp (h3 _)))).mul (Rl.cos ((h2 _).mul (Rl.exp (h3 _))))

include h1 h2 h3 in
theorem LI_real (g : Fin 128) (p : Fin 64) : Rl (A_main_v15 (F := Ideal) a0 a1 a2 a3 a4 a5 (ix2 g p)) := by
  obtain ⟨r, _, e⟩ := lam_neg a0 a1 a2 a3 a4 a5 h1 g p
  pointwise [A_main_v15, A_main_v14, A_main_v13, A_main_v12, A_main_v7, A_main_v6, A_main_v5, A_main_v4, A_main_v3]
  rw [e]
  exact (Rl.exp (Rl.mul ⟨r, rfl⟩ (Rl.exp (h3 _)))).mul (Rl.sin ((h2 _).mul (Rl.exp (h3 _))))

include h1 h2 in
theorem den_real (g : Fin 128) (p : Fin 64) : ∃ r : ℝ, r ≠ 0 ∧ A_main_v18 (F := Ideal) a0 a1 a2 a3 a4 a5 (ix2 g p) = (r : EReal) := by
  obtain ⟨r, hr, e⟩ := lam_neg a0 a1 a2 a3 a4 a5 h1 g p
  obtain ⟨b, hb⟩ := h2 (ix2 g p)
  refine ⟨r * r + b * b, (by nlinarith [mul_pos_of_neg_of_neg hr hr, mul_self_nonneg b] : 0 < r * r + b * b).ne', ?_⟩
  pointwise [A_main_v18, A_main_v17, A_main_v16]
  rw [e, hb, EReal.coe_add, EReal.coe_mul, EReal.coe_mul]

theorem Rl.div {x y : EReal} (hx : Rl x) : (∃ r : ℝ, r ≠ 0 ∧ y = (r : EReal)) → Rl (Ideal.div x y)
  | ⟨r, hr, e⟩ => by rw [e, Ideal.div_coe hr]; exact hx.mul ⟨_, rfl⟩

include h1 h2 h3 in
theorem F_real (g : Fin 128) (p : Fin 64) : Rl (A_main_v24 (F := Ideal) a0 a1 a2 a3 a4 a5 (ix2 g p)) ∧ Rl (A_main_v30 (F := Ideal) a0 a1 a2 a3 a4 a5 (ix2 g p)) := by
  have hL := LR_real a0 a1 a2 a3 a4 a5 h1 h2 h3 g p
  have hI := LI_real a0 a1 a2 a3 a4 a5 h1 h2 h3 g p
  have hd := den_real a0 a1 a2 a3 a4 a5 h1 h2 g p
  obtain ⟨r, _, e⟩ := lam_neg a0 a1 a2 a3 a4 a5 h1 g p
  have hr : Rl (A_main_v2 (F := Ideal) a0 a1 a2 a3 a4 a5 (ix2 g p)) := ⟨r, e⟩
  constructor
  · pointwise [A_main_v24]
    refine Rl.div ?_ hd
    pointwise [A_main_v23, A_main_v22, A_main_v21, A_main_v20, K_main_v19, K_main_cst_0]
    exact ((hL.sub ⟨1, rfl⟩).mul hr).add (hI.mul (h2 _))
  · pointwise [A_main_v30]
    refine Rl.div ?_ hd
    pointwise [A_main_v29, A_main_v28, A_main_v27, A_main_v25, K_main_v26, K_main_cst_1]
    exact (hI.mul hr).sub ((hL.sub ⟨1, rfl⟩).mul (h2 _))

include h1 h2 h3 h4 h5 in
theorem BR_real (g : Fin 128) (p : Fin 64) (h : Fin 16) : Rl (A_main_v37 (F := Ideal) a0 a1 a2 a3 a4 a5 (ix3 g p h)) := by
  have hF := F_real a0 a1 a2 a3 a4 a5 h1 h2 h3 g p
  pointwise [A_main_v37, A_main_v36, A_main_v35, A_main_v34, A_main_v33, A_main_v32, A_main_v31]
  exact (hF.1.mul (h4 _)).sub (hF.2.mul (h5 _))

include h1 h2 h3 h4 h5 in
theorem BI_real (g : Fin 128) (p : Fin 64) (h : Fin 16) : Rl (A_main_v44 (F := Ideal) a0 a1 a2 a3 a4 a5 (ix3 g p h)) := by
  have hF := F_real a0 a1 a2 a3 a4 a5 h1 h2 h3 g p
  pointwise [A_main_v44, A_main_v43, A_main_v42, A_main_v41, A_main_v40, A_main_v39, A_main_v38]
  exact (hF.1.mul (h5 _)).add (hF.2.mul (h4 _))

end

end Cert.KernelIdeal.Ssm
-- ==== Proof.Ssm.Final.lean ====
/- The kernel's output array is the reference's, entry by entry, of finite arguments. -/
module

public import proofs.«01_k».proof.Proof.Ssm.States
public import proofs.«01_k».proof.Proof.Ssm.RefVal
public import proofs.«01_k».proof.Proof.Ssm.Finite

@[expose] public section

set_option maxRecDepth 16384

noncomputable section

open Idealize.ShloMosaic Idealize.ShloMosaic.TcCoe Idealize.SL.Sem

namespace Cert.KernelIdeal.Ssm
open Cert.KernelIdeal Cert.KernelIdeal.Gen
open Cert.ReferenceIdeal.Step (A_main_v46 A_main_v45 A_main_v47 A_main_v48 A_main_v0 A_main_v37 A_main_v44 R_main_v76 State)
open Cert.ReferenceIdeal.SsmVal (iter iter_at)

/-- The GELU of the reference, and as the kernel multiplies it out. -/
def gelu (y : EReal) : EReal :=
  y * (Ideal.ofBits FTy.f32 1056964608#32 * (1 + Ideal.tanh (Ideal.ofBits FTy.f32 1061962282#32 * (y + Ideal.ofBits FTy.f32 1027024659#32 * (y * y * y)))))

theorem pay3_at (u : Vec Ideal S1024x128 .f32) (X : Vec Ideal S1024x1024 .f32) (cd : Vec Ideal S1x1024x128 .bf16) (d : Vec Ideal S1x128 .f32) (r : Fin 1024) (l : Fin 128) :
    k0_pay3 u X cd d (ix2 r l) = gelu ((∑ k : Fin 1024, X (ix2 r k) * cd (ix3 0 k l)) + d (ix2 0 l) * u (ix2 r l)) := by
  unfold gelu
  pointwise [k0_pay3]
  rw [← mul_assoc, mul_comm (Ideal.ofBits FTy.f32 1056964608#32)]
  exact mul_assoc _ _ _

/-- The group and place of a column. -/
def qg (q : Fin 2048) : Fin 128 := ⟨q.val / 16, by omega⟩
def qh (q : Fin 2048) : Fin 16 := ⟨q.val % 16, by omega⟩

theorem ref_at (s : State Ideal) (a0 : FVec Ideal S8192x2048 .f32) (a6 a7 : FVec Ideal S128x16x64 .f32) (a8 : FVec Ideal S128x16 .f32) (T : Fin 8192) (q : Fin 2048) :
    R_main_v76 s a0 a6 a7 a8 (ix2 T q) = gelu (((∑ p : Fin 64, a6 (ix3 (qg q) (qh q) p) * s.main_v52_7 (ix3 T (qg q) p))
      - ∑ p : Fin 64, a7 (ix3 (qg q) (qh q) p) * s.main_v52_8 (ix3 T (qg q) p)) + a8 (ix2 (qg q) (qh q)) * a0 (ix2 T q)) := by
  unfold gelu
  pointwise [R_main_v76]
  rfl

/-- The product with the output matrix of a block: the real parts by one factor, the imaginary parts by the other, subtracted. -/
theorem out_sum (C D : FVec Ideal S128x16x64 .f32) (hD : ∀ i, Rl (D i)) (X : Vec Ideal S1024x1024 .f32) (b : Fin 16) (r : Fin 1024) (l : Fin 128) (z : Fin 512 → ℂ)
    (hX : ∀ ch, X (ix2 r (colR ch)) = ((z ch).re : EReal) ∧ X (ix2 r (colI ch)) = ((z ch).im : EReal)) (zz : Fin 64 → ℂ) (hz : ∀ ch, grp b ch = lgrp b l → z ch = zz (sta ch)) :
    (∑ k : Fin 1024, X (ix2 r k) * cdT C D (ix3 b k l))
      = (∑ p : Fin 64, C (ix3 (lgrp b l) (lane l) p) * ((zz p).re : EReal)) - ∑ p : Fin 64, D (ix3 (lgrp b l) (lane l) p) * ((zz p).im : EReal) := by
  have hb : l.val / 16 < 8 := by omega
  have hg : ∀ p : Fin 64, grp b ⟨64 * (l.val / 16) + p.val, by omega⟩ = lgrp b l := fun p => Fin.ext (by
    show b.val * 8 + (64 * (l.val / 16) + p.val) / 64 = b.val * 8 + l.val / 16; omega)
  have hs : ∀ p : Fin 64, sta ⟨64 * (l.val / 16) + p.val, by omega⟩ = p := fun p => Fin.ext (by
    show (64 * (l.val / 16) + p.val) % 64 = p.val; omega)
  have hR : ∀ ch : Fin 512, X (ix2 r (colR ch)) * cdT C D (ix3 b (colR ch) l)
      = ((z ch).re : EReal) * (if ch.val / 64 = l.val / 16 then C (ix3 (grp b ch) (lane l) (sta ch)) else (0 : EReal)) := fun ch => by
    rw [(hX ch).1]; exact congrArg _ (cdT_re C D b l ch)
  have hI : ∀ ch : Fin 512, X (ix2 r (colI ch)) * cdT C D (ix3 b (colI ch) l)
      = ((z ch).im : EReal) * (if ch.val / 64 = l.val / 16 then -D (ix3 (grp b ch) (lane l) (sta ch)) else (0 : EReal)) := fun ch => by
    rw [(hX ch).2]; exact congrArg _ (cdT_im C D b l ch)
  have hsplit := Fin.sum_univ_add (a := 512) (b := 512) (fun k : Fin 1024 => X (ix2 r k) * cdT C D (ix3 b k l))
  refine hsplit.trans ?_
  have e1 : (∑ ch : Fin 512, X (ix2 r (colR ch)) * cdT C D (ix3 b (colR ch) l)) = ∑ p : Fin 64, C (ix3 (lgrp b l) (lane l) p) * ((zz p).re : EReal) := by
    rw [Finset.sum_congr rfl fun ch _ => hR ch]
    refine (sum_stretch 8 64 (fun ch : Fin 512 => ((z ch).re : EReal) * (if ch.val / 64 = l.val / 16 then C (ix3 (grp b ch) (lane l) (sta ch)) else (0 : EReal))) ⟨l.val / 16, hb⟩
      (fun ch h => by rw [if_neg h, mul_zero])).trans ?_
    refine Finset.sum_congr rfl fun p _ => ?_
    dsimp only
    rw [if_pos (by omega), hz _ (hg p), hg, hs, mul_comm]
  have e2 : (∑ ch : Fin 512, X (ix2 r (colI ch)) * cdT C D (ix3 b (colI ch) l)) = -∑ p : Fin 64, D (ix3 (lgrp b l) (lane l) p) * ((zz p).im : EReal) := by
    rw [Finset.sum_congr rfl fun ch _ => hI ch]
    refine (sum_stretch 8 64 (fun ch : Fin 512 => ((z ch).im : EReal) * (if ch.val / 64 = l.val / 16 then -D (ix3 (grp b ch) (lane l) (sta ch)) else (0 : EReal))) ⟨l.val / 16, hb⟩
      (fun ch h => by rw [if_neg h, mul_zero])).trans ?_
    choose d hd using hD
    have e3 : ∀ p : Fin 64, D (ix3 (lgrp b l) (lane l) p) * ((zz p).im : EReal) = ((d (ix3 (lgrp b l) (lane l) p) * (zz p).im : ℝ) : EReal) := fun p => by
      rw [hd, EReal.coe_mul]
    have e4 : ∀ f : Fin 64 → ℝ, (∑ p, ((f p : ℝ) : EReal)) = ((∑ p, f p : ℝ) : EReal) := fun f => by
      induction (Finset.univ : Finset (Fin 64)) using Finset.induction_on with
      | empty => rfl
      | insert a s ha ih => rw [Finset.sum_insert ha, Finset.sum_insert ha, ih, EReal.coe_add]
    rw [Finset.sum_congr rfl fun p _ => e3 p, e4, ← EReal.coe_neg, ← Finset.sum_neg_distrib, ← e4]
    refine Finset.sum_congr rfl fun p _ => ?_
    dsimp only
    rw [if_pos (by omega), hz _ (hg p), hg, hs, hd, ← EReal.coe_neg, ← EReal.coe_mul]
    congr 1; ring
  rw [sub_eq_add_neg]
  exact congrArg₂ (· + ·) e1 e2

section

variable (m : (ℓ : Loc nD τ sig) → Buf (Elt Ideal) ℓ) (c : Dev nD)

/-- What the reference returns of the kernel's arguments. -/
abbrev REF : FVec Ideal S8192x2048 .f32 :=
  R_main_v76 (iter (Cert.ReferenceIdeal.Step.init (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) 8192)
    (m ((c : Thread nD τ).loc main_arg0)) (m ((c : Thread nD τ).loc main_arg6)) (m ((c : Thread nD τ).loc main_arg7)) (m ((c : Thread nD τ).loc main_arg8))

theorem d_row (a8 : FVec Ideal S128x16 .f32) (q : Fin 2048) :
    shapeCast S1x2048 (shapeCast S2048 a8 shapeCasts_S128x16_S2048) shapeCasts_S2048_S1x2048 (ix2 0 q) = a8 (ix2 (qg q) (qh q)) := by
  pointwise
  rfl

theorem d_val (t : Fin cfg0.N) (l : Fin 128) : iblk m c 4 t (ix2 0 l) = m ((c : Thread nD τ).loc main_arg8) (ix2 (qg (colT t l)) (qh (colT t l))) := by
  exact (d_at m c t l).trans ((congrFun (V_d m c) _).trans (d_row _ _))

theorem bu_re (T : Fin 8192) (g : Fin 128) (p : Fin 64) (a0 a1 a2 a3 a4 a5) :
    A_main_v46 (F := Ideal) a0 a1 a2 a3 a4 a5 (ix3 T g p) = BU (A_main_v37 (F := Ideal) a0 a1 a2 a3 a4 a5) a0 T g p := by
  unfold BU
  pointwise [A_main_v46, A_main_v45, A_main_v0]
  refine Finset.sum_congr rfl fun h _ => (mul_comm _ _).trans ?_
  exact congrArg (fun k => a0 (ix2 T k) * _) (Fin.ext (by show g.val * 16 + h.val = 16 * g.val + h.val; omega))

theorem bu_im (T : Fin 8192) (g : Fin 128) (p : Fin 64) (a0 a1 a2 a3 a4 a5) :
    A_main_v48 (F := Ideal) a0 a1 a2 a3 a4 a5 (ix3 T g p) = BU (A_main_v44 (F := Ideal) a0 a1 a2 a3 a4 a5) a0 T g p := by
  unfold BU
  pointwise [A_main_v48, A_main_v47, A_main_v0]
  refine Finset.sum_congr rfl fun h _ => (mul_comm _ _).trans ?_
  exact congrArg (fun k => a0 (ix2 T k) * _) (Fin.ext (by show g.val * 16 + h.val = 16 * g.val + h.val; omega))

theorem BU_real (B : FVec Ideal S128x64x16 .f32) (u : FVec Ideal S8192x2048 .f32) (hB : ∀ g p h, Rl (B (ix3 g p h))) (hu : ∀ i, Rl (u i)) (T : Fin 8192) (g : Fin 128) (p : Fin 64) : Rl (BU B u T g p) :=
  Rl.sum _ _ fun h => (hu _).mul (hB g p h)

/-- A real number as its own coercion. -/
theorem Rl.eq {x : EReal} : Rl x → x = (x.toReal : EReal)
  | ⟨r, e⟩ => by rw [e]; rfl

variable [Cert.Pre_finite.Facts] (hpre : Cert.Pre_finite.fn (F := Ideal) (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1)

include hpre in
theorem point (t : Fin cfg0.N) (r : Fin 1024) (l : Fin 128) : (left m c t.val t.isLt).1 (ix2 r l) = REF m c (ix2 (rowT t r) (colT t l)) := by
  obtain ⟨h0, h1, h2, h3, h4, h5, h6, h7, h8⟩ := args_real _ _ _ _ _ _ _ _ _ hpre
  have hBR : ∀ T g p, Rl (BU (BR m c) (m ((c : Thread nD τ).loc main_arg0)) T g p) := BU_real _ _ (BR_real _ _ _ _ _ _ h1 h2 h3 h4 h5) h0
  have hBI : ∀ T g p, Rl (BU (BI m c) (m ((c : Thread nD τ).loc main_arg0)) T g p) := BU_real _ _ (BI_real _ _ _ _ _ _ h1 h2 h3 h4 h5) h0
  have hLR : ∀ g p, Rl (LR m c (ix2 g p)) := LR_real _ _ _ _ _ _ h1 h2 h3
  have hLI : ∀ g p, Rl (LI m c (ix2 g p)) := LI_real _ _ _ _ _ _ h1 h2 h3
  let lam : Fin 128 → Fin 64 → ℂ := fun g p => ⟨(LR m c (ix2 g p)).toReal, (LI m c (ix2 g p)).toReal⟩
  let w : Fin 128 → Fin 64 → ℕ → ℂ := fun g p n => if h : n < 8192 then
    ⟨(BU (BR m c) (m ((c : Thread nD τ).loc main_arg0)) ⟨n, h⟩ g p).toReal, (BU (BI m c) (m ((c : Thread nD τ).loc main_arg0)) ⟨n, h⟩ g p).toReal⟩ else 0
  have hl : ∀ g p, LR m c (ix2 g p) = ((lam g p).re : EReal) ∧ LI m c (ix2 g p) = ((lam g p).im : EReal) := fun g p => ⟨(hLR g p).eq, (hLI g p).eq⟩
  have hw : ∀ (T : Fin 8192) g p, BU (BR m c) (m ((c : Thread nD τ).loc main_arg0)) T g p = ((w g p T.val).re : EReal)
      ∧ BU (BI m c) (m ((c : Thread nD τ).loc main_arg0)) T g p = ((w g p T.val).im : EReal) := fun T g p => by
    have e : w g p T.val = ⟨(BU (BR m c) (m ((c : Thread nD τ).loc main_arg0)) T g p).toReal, (BU (BI m c) (m ((c : Thread nD τ).loc main_arg0)) T g p).toReal⟩ := dif_pos T.isLt
    rw [e]; exact ⟨(hBR T g p).eq, (hBI T g p).eq⟩
  obtain ⟨X, hX, hst⟩ := states m c lam w hl hw t.val t.isLt
  have hgq : lgrp (blkB t) l = qg (colT t l) := Fin.ext (by show t.val / 8 * 8 + l.val / 16 = (128 * (t.val / 8) + l.val) / 16; omega)
  have hhq : lane l = qh (colT t l) := Fin.ext (by show l.val % 16 = (128 * (t.val / 8) + l.val) % 16; omega)
  have hrow : ∀ p, (iter (Cert.ReferenceIdeal.Step.init (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) 8192).main_v52_7 (ix3 (rowT t r) (qg (colT t l)) p)
        = ((seqC (lam (qg (colT t l)) p) 0 (w (qg (colT t l)) p) (rowT t r).val).re : EReal)
      ∧ (iter (Cert.ReferenceIdeal.Step.init (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) 8192).main_v52_8 (ix3 (rowT t r) (qg (colT t l)) p)
        = ((seqC (lam (qg (colT t l)) p) 0 (w (qg (colT t l)) p) (rowT t r).val).im : EReal) := fun p =>
    (iter_at _ (qg (colT t l)) p (lam (qg (colT t l)) p) (w (qg (colT t l)) p)
      (by show Cert.ReferenceIdeal.Step.K_main_v49 (F := Ideal) (ix2 (qg (colT t l)) p) = 0; pointwise [Cert.ReferenceIdeal.Step.K_main_v49, Cert.ReferenceIdeal.Step.K_main_cst_2])
      (by show Cert.ReferenceIdeal.Step.K_main_v49 (F := Ideal) (ix2 (qg (colT t l)) p) = 0; pointwise [Cert.ReferenceIdeal.Step.K_main_v49, Cert.ReferenceIdeal.Step.K_main_cst_2])
      (hl _ p) (fun n => ⟨(bu_re n _ p _ _ _ _ _ _).trans (hw n _ p).1, (bu_im n _ p _ _ _ _ _ _).trans (hw n _ p).2⟩) 8192 le_rfl).2 (rowT t r) (rowT t r).isLt
  rw [hX, pay3_at]
  refine Eq.trans ?_ (ref_at _ _ _ _ _ _ _).symm
  refine congrArg gelu (congrArg₂ (· + ·) ?_ ?_)
  · have hcd : ∀ k : Fin 1024, iblk m c 2 t (ix3 0 k l) = cdT (m ((c : Thread nD τ).loc main_arg6)) (m ((c : Thread nD τ).loc main_arg7)) (ix3 (blkB t) k l) := fun k =>
      (cd_at m c t l k).trans (congrFun (V_cd m c) _)
    rw [Finset.sum_congr rfl fun k _ => congrArg (X (ix2 r k) * ·) (hcd k)]
    rw [out_sum _ _ h7 X (blkB t) r l (fun ch => chan lam w t ch (1024 * (t.val % 8) + r.val)) (fun ch => (hst ch).1 r)
      (fun p => seqC (lam (qg (colT t l)) p) 0 (w (qg (colT t l)) p) (rowT t r).val) (fun ch h => by rw [← hgq, ← h]; rfl), ← hgq, ← hhq]
    simp only [hgq, (hrow _).1, (hrow _).2]
  · exact congrArg₂ (· * ·) (d_val m c t l) (u_at m c t r l)

theorem out_emb (f : FVec Ideal S8192x2048 .f32) (t : Fin cfg0.N) (r : Fin 1024) (l : Fin 128) :
    f (((cfg0.win 5).blk t).view.emb (ix2 r l)) = f (ix2 (rowT t r) (colT t l)) := by
  blk_point [idx t, rowT, colT]

include hpre in
theorem point' (t : Fin cfg0.N) (y : S1024x128.Idx) : (left m c t.val t.isLt).1 y = REF m c (((cfg0.win 5).blk t).view.emb y) := by
  obtain ⟨r, l, rfl⟩ : ∃ (r : Fin 1024) (l : Fin 128), y = ix2 r l := ⟨y 0, y 1, (ix2_eta y).symm⟩
  exact (point m c hpre t r l).trans (out_emb (REF m c) t r l).symm

include hpre in
theorem final : (dats m 0 c).arrAt 5 (cfgs 0).N = REF m c := by
  refine (dats m 0 c).arrAt_eq_of_covers 5 _ (by decide +kernel) fun t _ y => ?_
  blk_simp
  rw [after_5]
  exact point' m c hpre t y

end

end Cert.KernelIdeal.Ssm
-- ==== Proof.EvenInValue.lean ====
module

public import proofs.«01_k».proof.Proof.Gen.EvenInIdeal.Frame
public import proofs.«01_k».proof.Proof.Gen.EvenInRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.EvenInIdeal.Hand
open Cert.EvenInIdeal Cert.EvenInIdeal.Gen

variable (m : (ℓ : Loc nD τ sig) → Buf (Elt Ideal) ℓ)

/-- The reference's result over the call's arguments. -/
abbrev REF (X : FVec Ideal S8192x4096 .bf16) (W : FVec Ideal S4096x12320 .f32) : FVec Ideal S8192x12288 .f32 :=
  extractStridedSlice Cert.EvenInRefIdeal.S8192x12288 ![0, 0]
    (Host.dotGeneral Cert.EvenInRefIdeal.dot_S8192x4096_S4096x12320_S8192x12320_1_0_0_1_n_n none
      (extf .f32 X Cert.EvenInRefIdeal.Gen.bitsLt_bf16_f32) W) Cert.EvenInRefIdeal.Gen.slices_S8192x12320_S8192x12288_0_0

theorem idx : ∀ t : Fin cfg0.N, win0_0.index t = ![t.val % 8, 0] ∧ win0_1.index t = ![t.val / 8, 0]
    ∧ win0_2.index t = ![t.val % 8, t.val / 8] :=
  (by decide +kernel : ∀ t : Fin grid0.N, _)

/-- The first point of the column of blocks that point `t` is in. -/
abbrev start (t : Fin cfg0.N) : Fin cfg0.N := ⟨8 * (t.val / 8), by have := t.isLt; omega⟩

theorem scratch (c : Dev nD) : ∀ (n : ℕ) (h : n < cfg0.N),
    (outsAt0 m c n h).2 = k0_pay1 (F := Ideal) (X0_1 m c (start ⟨n, h⟩)) := by
  intro n
  induction n with
  | zero =>
    intro h
    have e := outsAt0_A m c ⟨0, h⟩ rfl
    have hs : start ⟨0, h⟩ = ⟨0, h⟩ := by apply Fin.ext; show 8 * (0 / 8) = 0; rfl
    rw [e, hs]
    dsimp only; frame_out
  | succ n ih =>
    intro h
    by_cases h0 : (n + 1) % 8 = 0
    · have e := outsAt0_A m c ⟨n + 1, h⟩ h0
      have hs : start ⟨n + 1, h⟩ = ⟨n + 1, h⟩ := by apply Fin.ext; show 8 * ((n + 1) / 8) = n + 1; omega
      rw [e, hs]
      dsimp only; frame_out
    · have e := outsAt0_B m c ⟨n + 1, h⟩ h0
      have hs : start ⟨n + 1, h⟩ = start ⟨n, Nat.lt_of_succ_lt h⟩ := by
        apply Fin.ext; show 8 * ((n + 1) / 8) = 8 * (n / 8); omega
      rw [e, hs]
      exact ih _

theorem out_eq (c : Dev nD) (t : Fin cfg0.N) : (outsAt0 m c t.val t.isLt).1
    = k0_pay2 (iblk m c 0 t) (k0_pay1 (F := Ideal) (X0_1 m c (start t))) := by
  by_cases h0 : t.val % 8 = 0
  · have hs : start t = t := by apply Fin.ext; show 8 * (t.val / 8) = t.val; omega
    rw [outsAt0_A m c t h0, hs]
    dsimp only; frame_out
  · have hs : start ⟨t.val - 1, Nat.lt_of_le_of_lt (Nat.sub_le _ _) t.isLt⟩ = start t := by
      apply Fin.ext; show 8 * ((t.val - 1) / 8) = 8 * (t.val / 8); omega
    rw [outsAt0_B m c t h0]
    dsimp only
    rw [scratch m c (t.val - 1) _, hs]
    frame_out
    congr 1
    exact (Memref.isWhole_whole _).read_unread _

/-- A weight block as staged, at an index: the weight matrix read with its axes swapped. -/
theorem block_at (c : Dev nD) (t : Fin cfg0.N) (j : S512x4096.Idx) : X0_1 m c t j
    = m ((c : Thread nD τ).loc main_arg1) (ix2 (j 1) ⟨t.val / 8 * 512 + (j 0).val, by
        have h0 := t.isLt; have h1 : (j 0).val < 512 := (j 0).isLt; have h2 : cfg0.N = 192 := N_0; omega⟩) := by
  unfold X0_1 Pipeline.Window.fill
  rw [dif_pos (moved0_1 t j)]
  blk_simp [iblk]
  entry_read
  pointwise
  blk_ext [idx t]

theorem point (c : Dev nD) (t : Fin cfg0.N) (y : S1024x512.Idx) :
    k0_pay2 (iblk m c 0 t) (k0_pay1 (F := Ideal) (X0_1 m c (start t))) y
    = REF (m ((c : Thread nD τ).loc main_arg0)) (m ((c : Thread nD τ).loc main_arg1)) (((cfg0.win 2).blk t).view.emb y) := by
  have hs : (start t).val / 8 = t.val / 8 := by show 8 * (t.val / 8) / 8 = t.val / 8; omega
  pointwise [k0_pay1, k0_pay2, REF]
  simp only [block_at]
  blk_point [iblk, idx t, idx (start t)]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, out_eq]
  exact point m c t y

end Cert.EvenInIdeal.Hand

end
-- ==== Proof.OddRwkvInValue.lean ====
module

public import proofs.«01_k».proof.Proof.Gen.OddRwkvInIdeal.Frame
public import proofs.«01_k».proof.Proof.Gen.OddRwkvInRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OddRwkvInIdeal.Hand
open Cert.OddRwkvInIdeal Cert.OddRwkvInIdeal.Gen

variable (m : (ℓ : Loc nD τ sig) → Buf (Elt Ideal) ℓ)

/-- The reference's result over the call's arguments. -/
abbrev REF (X : FVec Ideal S8192x4096 .bf16) (W : FVec Ideal S4096x8640 .f32) : FVec Ideal S8192x6656 .f32 :=
  extractStridedSlice Cert.OddRwkvInRefIdeal.S8192x6656 ![0, 0]
    (Host.dotGeneral Cert.OddRwkvInRefIdeal.dot_S8192x4096_S4096x8640_S8192x8640_1_0_0_1_n_n none
      (extf .f32 X Cert.OddRwkvInRefIdeal.Gen.bitsLt_bf16_f32) W) Cert.OddRwkvInRefIdeal.Gen.slices_S8192x8640_S8192x6656_0_0

theorem idx : ∀ t : Fin cfg0.N, win0_0.index t = ![t.val % 8, 0] ∧ win0_1.index t = ![t.val / 8, 0]
    ∧ win0_2.index t = ![t.val % 8, t.val / 8] :=
  (by decide +kernel : ∀ t : Fin grid0.N, _)

/-- The first point of the column of blocks that point `t` is in. -/
abbrev start (t : Fin cfg0.N) : Fin cfg0.N := ⟨8 * (t.val / 8), by have := t.isLt; omega⟩

theorem scratch (c : Dev nD) : ∀ (n : ℕ) (h : n < cfg0.N),
    (outsAt0 m c n h).2 = k0_pay1 (F := Ideal) (X0_1 m c (start ⟨n, h⟩)) := by
  intro n
  induction n with
  | zero =>
    intro h
    have e := outsAt0_A m c ⟨0, h⟩ rfl
    have hs : start ⟨0, h⟩ = ⟨0, h⟩ := by apply Fin.ext; show 8 * (0 / 8) = 0; rfl
    rw [e, hs]
    dsimp only; frame_out
  | succ n ih =>
    intro h
    by_cases h0 : (n + 1) % 8 = 0
    · have e := outsAt0_A m c ⟨n + 1, h⟩ h0
      have hs : start ⟨n + 1, h⟩ = ⟨n + 1, h⟩ := by apply Fin.ext; show 8 * ((n + 1) / 8) = n + 1; omega
      rw [e, hs]
      dsimp only; frame_out
    · have e := outsAt0_B m c ⟨n + 1, h⟩ h0
      have hs : start ⟨n + 1, h⟩ = start ⟨n, Nat.lt_of_succ_lt h⟩ := by
        apply Fin.ext; show 8 * ((n + 1) / 8) = 8 * (n / 8); omega
      rw [e, hs]
      exact ih _

theorem out_eq (c : Dev nD) (t : Fin cfg0.N) : (outsAt0 m c t.val t.isLt).1
    = k0_pay2 (iblk m c 0 t) (k0_pay1 (F := Ideal) (X0_1 m c (start t))) := by
  by_cases h0 : t.val % 8 = 0
  · have hs : start t = t := by apply Fin.ext; show 8 * (t.val / 8) = t.val; omega
    rw [outsAt0_A m c t h0, hs]
    dsimp only; frame_out
  · have hs : start ⟨t.val - 1, Nat.lt_of_le_of_lt (Nat.sub_le _ _) t.isLt⟩ = start t := by
      apply Fin.ext; show 8 * ((t.val - 1) / 8) = 8 * (t.val / 8); omega
    rw [outsAt0_B m c t h0]
    dsimp only
    rw [scratch m c (t.val - 1) _, hs]
    frame_out
    congr 1
    exact (Memref.isWhole_whole _).read_unread _

/-- A weight block as staged, at an index: the weight matrix read with its axes swapped. -/
theorem block_at (c : Dev nD) (t : Fin cfg0.N) (j : S512x4096.Idx) : X0_1 m c t j
    = m ((c : Thread nD τ).loc main_arg1) (ix2 (j 1) ⟨t.val / 8 * 512 + (j 0).val, by
        have h0 := t.isLt; have h1 : (j 0).val < 512 := (j 0).isLt; have h2 : cfg0.N = 104 := N_0; omega⟩) := by
  unfold X0_1 Pipeline.Window.fill
  rw [dif_pos (moved0_1 t j)]
  blk_simp [iblk]
  entry_read
  pointwise
  blk_ext [idx t]

theorem point (c : Dev nD) (t : Fin cfg0.N) (y : S1024x512.Idx) :
    k0_pay2 (iblk m c 0 t) (k0_pay1 (F := Ideal) (X0_1 m c (start t))) y
    = REF (m ((c : Thread nD τ).loc main_arg0)) (m ((c : Thread nD τ).loc main_arg1)) (((cfg0.win 2).blk t).view.emb y) := by
  have hs : (start t).val / 8 = t.val / 8 := by show 8 * (t.val / 8) / 8 = t.val / 8; omega
  pointwise [k0_pay1, k0_pay2, REF]
  simp only [block_at]
  blk_point [iblk, idx t, idx (start t)]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, out_eq]
  exact point m c t y

end Cert.OddRwkvInIdeal.Hand

end
-- ==== Proof.OddSsmInValue.lean ====
module

public import proofs.«01_k».proof.Proof.Gen.OddSsmInIdeal.Frame
public import proofs.«01_k».proof.Proof.Gen.OddSsmInRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OddSsmInIdeal.Hand
open Cert.OddSsmInIdeal Cert.OddSsmInIdeal.Gen

variable (m : (ℓ : Loc nD τ sig) → Buf (Elt Ideal) ℓ)

/-- The reference's result over the call's arguments. -/
abbrev REF (X : FVec Ideal S8192x4096 .bf16) (W : FVec Ideal S4096x8640 .f32) : FVec Ideal S8192x2048 .f32 :=
  extractStridedSlice Cert.OddSsmInRefIdeal.S8192x2048 ![0, 6592]
    (Host.dotGeneral Cert.OddSsmInRefIdeal.dot_S8192x4096_S4096x8640_S8192x8640_1_0_0_1_n_n none
      (extf .f32 X Cert.OddSsmInRefIdeal.Gen.bitsLt_bf16_f32) W) Cert.OddSsmInRefIdeal.Gen.slices_S8192x8640_S8192x2048_0_6592

theorem idx : ∀ t : Fin cfg0.N, win0_0.index t = ![t.val % 8, 0] ∧ win0_1.index t = ![t.val / 8, 0]
    ∧ win0_2.index t = ![t.val % 8, t.val / 8] :=
  (by decide +kernel : ∀ t : Fin grid0.N, _)

/-- The first point of the column of blocks that point `t` is in. -/
abbrev start (t : Fin cfg0.N) : Fin cfg0.N := ⟨8 * (t.val / 8), by have := t.isLt; omega⟩

theorem scratch (c : Dev nD) : ∀ (n : ℕ) (h : n < cfg0.N),
    (outsAt0 m c n h).2 = k0_pay1 (iblk m c 1 (start ⟨n, h⟩)) := by
  intro n
  induction n with
  | zero =>
    intro h
    have e := outsAt0_A m c ⟨0, h⟩ rfl
    have hs : start ⟨0, h⟩ = ⟨0, h⟩ := by apply Fin.ext; show 8 * (0 / 8) = 0; rfl
    rw [e, hs]
    dsimp only; frame_out
  | succ n ih =>
    intro h
    by_cases h0 : (n + 1) % 8 = 0
    · have e := outsAt0_A m c ⟨n + 1, h⟩ h0
      have hs : start ⟨n + 1, h⟩ = ⟨n + 1, h⟩ := by apply Fin.ext; show 8 * ((n + 1) / 8) = n + 1; omega
      rw [e, hs]
      dsimp only; frame_out
    · have e := outsAt0_B m c ⟨n + 1, h⟩ h0
      have hs : start ⟨n + 1, h⟩ = start ⟨n, Nat.lt_of_succ_lt h⟩ := by
        apply Fin.ext; show 8 * ((n + 1) / 8) = 8 * (n / 8); omega
      rw [e, hs]
      exact ih _

theorem out_eq (c : Dev nD) (t : Fin cfg0.N) : (outsAt0 m c t.val t.isLt).1
    = k0_pay2 (iblk m c 0 t) (k0_pay1 (iblk m c 1 (start t))) := by
  by_cases h0 : t.val % 8 = 0
  · have hs : start t = t := by apply Fin.ext; show 8 * (t.val / 8) = t.val; omega
    rw [outsAt0_A m c t h0, hs]
    dsimp only; frame_out
  · have hs : start ⟨t.val - 1, Nat.lt_of_le_of_lt (Nat.sub_le _ _) t.isLt⟩ = start t := by
      apply Fin.ext; show 8 * ((t.val - 1) / 8) = 8 * (t.val / 8); omega
    rw [outsAt0_B m c t h0]
    dsimp only
    rw [scratch m c (t.val - 1) _, hs]
    frame_out
    congr 1
    exact (Memref.isWhole_whole _).read_unread _

theorem point (c : Dev nD) (t : Fin cfg0.N) (y : S1024x512.Idx) :
    k0_pay2 (iblk m c 0 t) (k0_pay1 (iblk m c 1 (start t))) y
    = REF (m ((c : Thread nD τ).loc main_arg0)) (m ((c : Thread nD τ).loc main_arg1)) (((cfg0.win 2).blk t).view.emb y) := by
  have hs : (start t).val / 8 = t.val / 8 := by show 8 * (t.val / 8) / 8 = t.val / 8; omega
  pointwise [k0_pay1, k0_pay2, REF]
  blk_point [iblk, idx t, idx (start t)]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, out_eq]
  exact point m c t y

end Cert.OddSsmInIdeal.Hand

end
-- ==== Proof.GluValue.lean ====
module

public import proofs.«01_k».proof.Proof.Gen.GluIdeal.Frame
public import proofs.«01_k».proof.Proof.Gen.GluRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GluIdeal.Hand
open Cert.GluIdeal Cert.GluIdeal.Gen

variable (m : (ℓ : Loc nD τ sig) → Buf (Elt Ideal) ℓ)

/-- The reference's result over the call's arguments. -/
abbrev REF (Y : FVec Ideal S8192x2048 .f32) (W : FVec Ideal S2048x2048 .f32) (B : FVec Ideal S2048 .f32) :
    FVec Ideal S8192x2048 .bf16 :=
  open Cert.GluRefIdeal Cert.GluRefIdeal.Gen in
  truncf .bf16 (mulf Y (Host.divf (broadcastInDim S8192x2048 ![] bcast_S_S8192x2048 (constant S_ .f32 0x3F800000#32))
    (addf (broadcastInDim S8192x2048 ![] bcast_S_S8192x2048 (constant S_ .f32 0x3F800000#32))
      (Host.exp (Host.negf (addf (Host.dotGeneral dot_S8192x2048_S2048x2048_S8192x2048_1_0_0_1_n_n none Y W)
        (broadcastInDim S8192x2048 ![0, 1] bcast_S1x2048_S8192x2048_0_1
          (broadcastInDim S1x2048 ![1] bcast_S2048_S1x2048_1 B)))))))) Cert.GluRefIdeal.Gen.bitsLt_bf16_f32

theorem idx : ∀ t : Fin cfg0.N, win0_0.index t = ![t.val % 8, 0] ∧ win0_1.index t = ![0, t.val / 8]
    ∧ win0_2.index t = ![t.val % 8, t.val / 8] ∧ win0_3.index t = ![0, t.val / 8] ∧ win0_4.index t = ![t.val % 8, t.val / 8] :=
  (by decide +kernel : ∀ t : Fin grid0.N, _)

/-- The first point of the column of blocks that point `t` is in. -/
abbrev start (t : Fin cfg0.N) : Fin cfg0.N := ⟨8 * (t.val / 8), by have := t.isLt; omega⟩

theorem scratch (c : Dev nD) : ∀ (n : ℕ) (h : n < cfg0.N),
    (outsAt0 m c n h).2 = k0_pay1 (iblk m c 1 (start ⟨n, h⟩)) := by
  intro n
  induction n with
  | zero =>
    intro h
    have e := outsAt0_A m c ⟨0, h⟩ rfl
    have hs : start ⟨0, h⟩ = ⟨0, h⟩ := by apply Fin.ext; show 8 * (0 / 8) = 0; rfl
    rw [e, hs]
    dsimp only; frame_out
  | succ n ih =>
    intro h
    by_cases h0 : (n + 1) % 8 = 0
    · have e := outsAt0_A m c ⟨n + 1, h⟩ h0
      have hs : start ⟨n + 1, h⟩ = ⟨n + 1, h⟩ := by apply Fin.ext; show 8 * ((n + 1) / 8) = n + 1; omega
      rw [e, hs]
      dsimp only; frame_out
    · have e := outsAt0_B m c ⟨n + 1, h⟩ h0
      have hs : start ⟨n + 1, h⟩ = start ⟨n, Nat.lt_of_succ_lt h⟩ := by
        apply Fin.ext; show 8 * ((n + 1) / 8) = 8 * (n / 8); omega
      rw [e, hs]
      exact ih _

theorem out_eq (c : Dev nD) (t : Fin cfg0.N) : (outsAt0 m c t.val t.isLt).1
    = k0_pay2 (iblk m c 0 t) (k0_pay1 (iblk m c 1 (start t))) (iblk m c 2 t) (iblk m c 3 t) := by
  by_cases h0 : t.val % 8 = 0
  · have hs : start t = t := by apply Fin.ext; show 8 * (t.val / 8) = t.val; omega
    rw [outsAt0_A m c t h0, hs]
    dsimp only; frame_out
  · have hs : start ⟨t.val - 1, Nat.lt_of_le_of_lt (Nat.sub_le _ _) t.isLt⟩ = start t := by
      apply Fin.ext; show 8 * ((t.val - 1) / 8) = 8 * (t.val / 8); omega
    rw [outsAt0_B m c t h0]
    dsimp only
    rw [scratch m c (t.val - 1) _, hs]
    frame_out
    congr 1
    exact (Memref.isWhole_whole _).read_unread _

theorem point (c : Dev nD) (t : Fin cfg0.N) (y : S1024x512.Idx) :
    k0_pay2 (iblk m c 0 t) (k0_pay1 (iblk m c 1 (start t))) (iblk m c 2 t) (iblk m c 3 t) y
    = REF (m ((c : Thread nD τ).loc main_arg0)) (m ((c : Thread nD τ).loc main_arg1)) (m ((c : Thread nD τ).loc main_arg2)) (((cfg0.win 4).blk t).view.emb y) := by
  have hs : (start t).val / 8 = t.val / 8 := by show 8 * (t.val / 8) / 8 = t.val / 8; omega
  have hz : ∀ a : EReal, 0 - a = -a := fun a => by rw [sub_eq_add_neg, zero_add]
  pointwise [k0_pay1, k0_pay2, REF]
  simp only [hz]
  blk_point [iblk, idx t, idx (start t)]

theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, out_eq]
  exact point m c t y

end Cert.GluIdeal.Hand

end
-- ==== Proof.OutProjValue.lean ====
module

public import proofs.«01_k».proof.Proof.Gen.OutProjIdeal.Frame
public import proofs.«01_k».proof.Proof.Gen.OutProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Hand
open Cert.OutProjIdeal Cert.OutProjIdeal.Gen

variable (m : (ℓ : Loc nD τ sig) → Buf (Elt Ideal) ℓ)

/-- The reference's result over the call's arguments. -/
abbrev REF (A B : FVec Ideal S8192x2048 .bf16) (W : FVec Ideal S4096x4096 .f32) (H : FVec Ideal S8192x4096 .f32) :
    FVec Ideal S8192x4096 .f32 :=
  addf H (Host.dotGeneral Cert.OutProjRefIdeal.dot_S8192x4096_S4096x4096_S8192x4096_1_0_0_1_n_n none
    (concatenate Cert.OutProjRefIdeal.S8192x4096 1
      [⟨Cert.OutProjRefIdeal.S8192x2048, extf .f32 A Cert.OutProjRefIdeal.Gen.bitsLt_bf16_f32⟩,
       ⟨Cert.OutProjRefIdeal.S8192x2048, extf .f32 B Cert.OutProjRefIdeal.Gen.bitsLt_bf16_f32⟩]
      Cert.OutProjRefIdeal.Gen.concatenates_S8192x2048_S8192x2048_S8192x4096_d1) W)

theorem idx : ∀ t : Fin cfg0.N, win0_0.index t = ![t.val % 8, 0] ∧ win0_1.index t = ![t.val % 8, 0]
    ∧ win0_2.index t = ![0, t.val / 8] ∧ win0_3.index t = ![1, t.val / 8] ∧ win0_4.index t = ![t.val % 8, t.val / 8]
    ∧ win0_5.index t = ![t.val % 8, t.val / 8] :=
  (by decide +kernel : ∀ t : Fin grid0.N, _)

/-- The first point of the column of blocks that point `t` is in. -/
abbrev start (t : Fin cfg0.N) : Fin cfg0.N := ⟨8 * (t.val / 8), by have := t.isLt; omega⟩

theorem scratch (c : Dev nD) : ∀ (n : ℕ) (h : n < cfg0.N),
    (outsAt0 m c n h).2.1 = k0_pay1 (iblk m c 2 (start ⟨n, h⟩)) ∧ (outsAt0 m c n h).2.2 = k0_pay2 (iblk m c 3 (start ⟨n, h⟩)) := by
  intro n
  induction n with
  | zero =>
    intro h
    have e := outsAt0_A m c ⟨0, h⟩ rfl
    have hs : start ⟨0, h⟩ = ⟨0, h⟩ := by apply Fin.ext; show 8 * (0 / 8) = 0; rfl
    rw [e, hs]
    constructor
    · dsimp only; frame_out
    · dsimp only; frame_out
  | succ n ih =>
    intro h
    by_cases h0 : (n + 1) % 8 = 0
    · have e := outsAt0_A m c ⟨n + 1, h⟩ h0
      have hs : start ⟨n + 1, h⟩ = ⟨n + 1, h⟩ := by apply Fin.ext; show 8 * ((n + 1) / 8) = n + 1; omega
      rw [e, hs]
      constructor
      · dsimp only; frame_out
      · dsimp only; frame_out
    · have e := outsAt0_B m c ⟨n + 1, h⟩ h0
      have hs : start ⟨n + 1, h⟩ = start ⟨n, Nat.lt_of_succ_lt h⟩ := by
        apply Fin.ext; show 8 * ((n + 1) / 8) = 8 * (n / 8); omega
      rw [e, hs]
      exact ih _

theorem out_eq (c : Dev nD) (t : Fin cfg0.N) : (outsAt0 m c t.val t.isLt).1
    = k0_pay3 (iblk m c 0 t) (k0_pay1 (iblk m c 2 (start t))) (iblk m c 1 t) (k0_pay2 (iblk m c 3 (start t))) (iblk m c 4 t) := by
  by_cases h0 : t.val % 8 = 0
  · have hs : start t = t := by apply Fin.ext; show 8 * (t.val / 8) = t.val; omega
    rw [outsAt0_A m c t h0, hs]
    dsimp only; frame_out
  · have hs : start ⟨t.val - 1, Nat.lt_of_le_of_lt (Nat.sub_le _ _) t.isLt⟩ = start t := by
      apply Fin.ext; show 8 * ((t.val - 1) / 8) = 8 * (t.val / 8); omega
    rw [outsAt0_B m c t h0]
    dsimp only
    rw [(scratch m c (t.val - 1) _).1, (scratch m c (t.val - 1) _).2, hs]
    frame_out
    congr 1 <;> exact (Memref.isWhole_whole _).read_unread _

theorem point (c : Dev nD) (t : Fin cfg0.N) (y : S1024x512.Idx) :
    k0_pay3 (iblk m c 0 t) (k0_pay1 (iblk m c 2 (start t))) (iblk m c 1 t) (k0_pay2 (iblk m c 3 (start t))) (iblk m c 4 t) y
    = REF (m ((c : Thread nD τ).loc main_arg0)) (m ((c : Thread nD τ).loc main_arg1)) (m ((c : Thread nD τ).loc main_arg2))
        (m ((c : Thread nD τ).loc main_arg3)) (((cfg0.win 5).blk t).view.emb y) := by
  have hs : (start t).val / 8 = t.val / 8 := by show 8 * (t.val / 8) / 8 = t.val / 8; omega
  pointwise [k0_pay1, k0_pay2, k0_pay3, REF]
  blk_point [iblk, V, idx t, idx (start t)]

theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5, out_eq]
  exact point m c t y

end Cert.OutProjIdeal.Hand

end
-- ==== Proof.Moe.Setup.lean ====
/- The launch set-up of the expert down-projection: the prefetched tables, the windows' blocks and the staging buffers. -/
module

public import proofs.«01_k».proof.Proof.Gen.DownIdeal.Launch
public import proofs.«01_k».proof.Proof.Gen.DownIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DownIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal Cert.DownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the launch begins: as they were, for nothing runs before it. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The three tables: the expert of each block, its count of valid rows, and whether the expert changed. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body is handed them. -/
abbrev tE : Memref sig .tc .smem S96 .i32 := Memref.whole main_arg1
abbrev htE : tE.IsWhole := Memref.isWhole_whole _
abbrev tN : Memref sig .tc .smem S96 .i32 := Memref.whole main_arg2
abbrev htN : tN.IsWhole := Memref.isWhole_whole _
abbrev tC : Memref sig .tc .smem S96 .i32 := Memref.whole main_arg3
abbrev htC : tC.IsWhole := Memref.isWhole_whole _

/-- A table's buffer, and the table held for reading. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tE (tbl m 0) ∗ tbPt c tN (tbl m 1) ∗ tbPt c tC (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at a point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The staging memrefs at a point, and the scratch. -/
abbrev ms0 (hO : Ok m) (t : Fin (cfgM m hO).N) : Memref sig .tc .vmem S256x1024 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1024x4096 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S256x4096 .f32 := spec0_2.stage ((cfgM m hO).slots t 2)
abbrev hs2 (hO : Ok m) (t : Fin (cfgM m hO).N) : (ms2 m hO t).IsWhole := hstage0_2 (((cfgM m hO).slots t 2).cast nbuf0_2)
abbrev sc : Memref sig .tc .vmem S1024x4096 .bf16 := Memref.whole cc0_scratch0

/-- The body at a point. -/
abbrev bodyAt0 (a : (pcfg0 (F := F)).Adm) (t : Fin (cfg0 a).N) : Prog (TpuEff nD τ sig (Elt F) Λ₀ .tc) PUnit :=
  cc0_moe_expert_down (grid0.coords t) tE htE tN htN tC htC (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) sc (Memref.isWhole_whole _)

theorem PhiA_eq (c : Dev nD) :
    (Pipeline.ΦA spec0 c : sProp 𝕄) = iprop(iprop((∃ d, owns (c : Thread nD τ) sc fullShare d)) ∗ (∃ r, prngReg c r)) := by
  unfold Pipeline.ΦA; rw [scopedRest0_eq]; simp only [sc, owns_whole]; try rfl

end Cert.DownIdeal.Moe

end
-- ==== Proof.Moe.Run.lean ====
/- One run of the expert down-projection's body: what it leaves in the carried expert matrix and in its output block. -/
module

public import proofs.«01_k».proof.Proof.Moe.Setup
public import Idealize.ShloMosaic.Lib.Pipeline.ValueKit
public import Idealize.ShloMosaic.Lib.WritesUnit
public import Idealize.ShloMosaic.Lib.VecWindow

@[expose] public section

set_option maxRecDepth 16384

noncomputable section

namespace Cert.DownIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal Cert.DownIdeal.Gen

variable {F : FTy → Type} [FloatOps F]

local notation "𝕄" => MT nD τ sig Unit (Elt F) ℕ (UR sig nD τ) ℕ

/-- The word of a table at a grid point. -/
def word (x : S96.Idx → BitVec 32) (i : grid0.Coords) : BitVec 32 := x (ix1 (⟨(i 1).val, (i 1).isLt⟩ : Fin 96))

/-- The carried expert matrix after a point: the new block rounded where the expert changed, as it was elsewhere. -/
def scOf (ch : BitVec 32) (x1 : Vec F S1x1x1024x4096 .f32) (xs : Vec F S1024x4096 .bf16) : Vec F S1024x4096 .bf16 :=
  if Scalar.cmpi .ne (Scalar.extui (Scalar.cmpi .eq ch 1#32) : BitVec 32) 0#32 = 1#1 then k0_pay1 x1 else xs

/-- The upper half of a block's rows. -/
def upper (x0 : Vec F S256x1024 .bf16) : Vec F S128x1024 .bf16 := fun y => x0 (ix2 (⟨(y 0).val, Nat.lt_of_lt_of_le (y 0).isLt (by decide)⟩ : Fin 256) (y 1))

/-- A block whose upper half is multiplied and whose lower half is zero. -/
def halfOf (x0 : Vec F S256x1024 .bf16) (s : Vec F S1024x4096 .bf16) : Vec F S256x4096 .f32 := fun y =>
  if h : (y 0).val < 128 then k0_pay3 (upper x0) s (ix2 (⟨(y 0).val, h⟩ : Fin 128) (y 1))
  else k0_pay4 (F := F) (ix2 (⟨(y 0).val - 128, by have : (y 0).val < 256 := (y 0).isLt; omega⟩ : Fin 128) (y 1))

/-- The output block after a point, by the count of valid rows; `d` where the count is negative and nothing is stored. -/
def outOf (n : BitVec 32) (x0 : Vec F S256x1024 .bf16) (s : Vec F S1024x4096 .bf16) (d : Vec F S256x4096 .f32) : Vec F S256x4096 .f32 :=
  if k0_cond4 n = 1#1 then k0_pay5 (F := F) else if k0_cond3 n = 1#1 then halfOf x0 s else if k0_cond2 n = 1#1 then k0_pay2 x0 s else d

theorem read_half (v : View sig .tc .vmem S256x4096 .f32) (f : v.ty.Contents (Elt F)) (x0 : Vec F S256x1024 .bf16) (s : Vec F S1024x4096 .bf16) :
    v.read (Elt F) (v.writes (Elt F) f
      [⟨Rect.unit (s := S256x4096) ![128, 0] S128x4096.size inb_S256x4096_S128x4096_128_0, k0_pay4 (F := F)⟩,
       ⟨Rect.unit (s := S256x4096) ![0, 0] S128x4096.size inb_S256x4096_S128x4096_0_0, k0_pay3 (upper x0) s⟩]) = halfOf x0 s := by
  funext y
  unfold halfOf
  split
  · next h =>
    rw [View.read_writes_cons_unit_of_not_mem (size := S128x4096.size) v f _ _ _ _ rfl 0 (Or.inl h),
      View.read_writes_cons_unit_of_mem (size := S128x4096.size) v f _ _ _ _ (ix2 (⟨(y 0).val, h⟩ : Fin 128) (y 1)) rfl (fun a => by
        refine Fin.cases ?_ (fun a => ?_) a
        · exact (Nat.zero_add _).symm
        · obtain rfl : a = 0 := Subsingleton.elim _ _; exact (Nat.zero_add _).symm)]
  · next h =>
    rw [View.read_writes_cons_unit_of_mem (size := S128x4096.size) v f _ _ _ _ (ix2 (⟨(y 0).val - 128, by have : (y 0).val < 256 := (y 0).isLt; omega⟩ : Fin 128) (y 1)) rfl (fun a => by
        refine Fin.cases ?_ (fun a => ?_) a
        · show (y 0).val = 128 + ((y 0).val - 128); omega
        · obtain rfl : a = 0 := Subsingleton.elim _ _; exact (Nat.zero_add _).symm)]

theorem readAt_upper (arg5 : Memref sig .tc .vmem S256x1024 .bf16) (harg5 : arg5.IsWhole) (x0 : Vec F S256x1024 .bf16) :
    View.readAt (Elt F) arg5.view (Rect.unit (s := S256x1024) ![0, 0] S128x1024.size inb_S256x1024_S128x1024_0_0).toLoadRect (harg5.unread x0) = upper x0 := by
  funext y
  refine Eq.trans (b := arg5.view.read (Elt F) (harg5.unread x0) (ix2 (⟨(y 0).val, Nat.lt_of_lt_of_le (y 0).isLt (by decide)⟩ : Fin 256) (y 1))) ?_ (congrFun (harg5.read_unread _) _)
  refine congrArg (arg5.view.read (Elt F) (harg5.unread x0)) (funext fun a => Fin.ext ?_)
  refine Fin.cases ?_ (fun a => ?_) a
  · show 0 + 1 * _ = _; rw [Nat.zero_add, Nat.one_mul]; rfl
  · obtain rfl : a = 0 := Subsingleton.elim _ _; show 0 + 1 * _ = _; rw [Nat.zero_add, Nat.one_mul]; rfl

theorem read_word1 (i : grid0.Coords) (x : S96.Idx → BitVec 32) (h : S1.numel = 1) :
    x ((Rect.unit (s := S96) (k0_off1 i) S1.size (k0_off1_inb i)).emb (Shape.Idx.first (h.symm ▸ Nat.one_pos))) = word x i := by
  have hi : (i 1).val < 96 := (i 1).isLt
  refine congrArg x (funext fun a => Fin.ext ?_)
  obtain rfl : a = 0 := Subsingleton.elim _ _
  show (BitVec.ofNat 32 (i 1).val).toNat + 1 * 0 = (i 1).val
  rw [BitVec.toNat_ofNat]; omega
theorem read_word2 (i : grid0.Coords) (x : S96.Idx → BitVec 32) (h : S1.numel = 1) :
    x ((Rect.unit (s := S96) (k0_off2 i) S1.size (k0_off2_inb i)).emb (Shape.Idx.first (h.symm ▸ Nat.one_pos))) = word x i := read_word1 i x h

set_option maxHeartbeats 1000000 in
/-- The body at a point: it runs to the contents stated above. -/
theorem run (c : Dev nD) (i : grid0.Coords) (arg5 : Memref sig .tc .vmem S256x1024 .bf16) (harg5 : arg5.IsWhole) (arg6 : Memref sig .tc .vmem S1x1x1024x4096 .f32) (harg6 : arg6.IsWhole) (arg7 : Memref sig .tc .vmem S256x4096 .f32) (harg7 : arg7.IsWhole) (arg8 : Memref sig .tc .vmem S1024x4096 .bf16) (harg8 : arg8.IsWhole)
    (x0 : Vec F S256x1024 .bf16) (x1 : Vec F S1x1x1024x4096 .f32) (xe : TbBuf (F := F) c tE) (xn : TbBuf (F := F) c tN) (xc : TbBuf (F := F) c tC) (xs : Vec F S1024x4096 .bf16) (d : Vec F S256x4096 .f32)
      (E : Set ℕ) (K : PUnit → sProp 𝕄) :
        iprop(owns (c : Thread nD τ) arg5 fullShare x0 ∗ owns (c : Thread nD τ) arg6 fullShare x1 ∗ owns (c : Thread nD τ) arg7 fullShare d ∗ owns (c : Thread nD τ) arg8 fullShare xs ∗ tbPt c tE xe ∗ tbPt c tN xn ∗ tbPt c tC xc
            ∗ (iprop(owns (c : Thread nD τ) arg5 fullShare x0 ∗ owns (c : Thread nD τ) arg6 fullShare x1 ∗ owns (c : Thread nD τ) arg7 fullShare (outOf (word xn i) x0 (scOf (word xc i) x1 xs) d) ∗ owns (c : Thread nD τ) arg8 fullShare (scOf (word xc i) x1 xs) ∗ tbPt c tE xe ∗ tbPt c tN xn ∗ tbPt c tC xc) -∗ K ⟨⟩))
          ⊢ wp frame (wpE (defs₀ (F := F)) Variants.none c none) E (cc0_moe_expert_down i tE htE tN htN tC htC arg5 harg5 arg6 harg6 arg7 harg7 arg8 harg8) K := by
    simp only [cc0_moe_expert_down_eq_skeleton]; unfold cc0_moe_expert_down_skel
    unfold owns
    iintro ⟨⟨%f0, %hf0, H0⟩, ⟨%f1, %hf1, H1⟩, ⟨%f2, %hf2, H2⟩, ⟨%fs0, %hfs0, HS0⟩, HT0, HT1, HT2, Hk⟩
    obtain rfl := harg5.eq_unread hf0; obtain rfl := harg6.eq_unread hf1; obtain rfl := harg8.eq_unread hfs0
    sl_exec
    sl_step
    have ec : run.sl.v4 c i xc = Scalar.cmpi .ne (Scalar.extui (Scalar.cmpi .eq (word xc i) 1#32) : BitVec 32) 0#32 := by
      unfold run.sl.v4 run.sl.v3 run.sl.v2
      exact congrArg (fun w => Scalar.cmpi .ne (Scalar.extui (Scalar.cmpi .eq w 1#32) : BitVec 32) 0#32) (read_word1 i xc numel1_S1)
    have en : run.sl.r_1 c i xn = word xn i := by
      unfold run.sl.r_1
      exact read_word2 i xn numel1_S1
    have ev : run.sl.v19 c i arg6 harg6 arg8 harg8 x1 xc xs = scOf (word xc i) x1 xs := by
      unfold run.sl.v19 scOf
      rw [ec]
      split
      · next h => rw [View.readAt_full, View.read_writes_full, View.readAt_full, harg6.read_unread]
      · next h => rw [View.readAt_full, harg8.read_unread]
    rw [ev, ec, en]
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr
      swap; · iexact H2
      ipureintro
      unfold outOf
      split
      · rw [View.read_writes_full]
      · split
        · rw [readAt_upper, read_half]
        · split
          · rw [View.read_writes_full, View.readAt_full, harg5.read_unread]
          · exact hf2
    isplitl [HS0]
    · iexists _; isplitr
      swap; · iexact HS0
      ipureintro
      unfold scOf
      split
      · rw [View.read_writes_full, View.readAt_full, harg6.read_unread]
      · exact harg8.read_unread _
    isplitl [HT0]; · iexact HT0
    isplitl [HT1]; · iexact HT1
    iexact HT2

end Cert.DownIdeal.Moe

end
-- ==== Proof.Moe.Frame.lean ====
/- The frame of the expert down-projection at any counts of valid rows: what the output blocks hold is not named. -/
module

public import proofs.«01_k».proof.Proof.Moe.Run
public import Idealize.ShloMosaic.Lib.Claim

@[expose] public section

set_option maxRecDepth 16384

noncomputable section

namespace Cert.DownIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal Cert.DownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the inputs' blocks, the output at anything. -/
def datsAny (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => k0_pay5 (F := F)
  Φ _ := iprop(Pipeline.ΦA spec0 c ∗ Pipeline.ΦT pre0 (tbl m) c)
  q _ := fullShare
  owed _ := 0

/-- The output's contents are not named. -/
abbrev hide : Fin 3 → Bool := fun | 0 => false | 1 => false | 2 => true

theorem datsAny_A (hO : Ok m) (c : Dev nD) (w : Fin (cfgM m hO).W) : (datsAny m hO 0 c).A w = V m c (Pipeline.arrRef spec0 w) := by
  dsimp only [datsAny]
theorem datsAny_0 (hO : Ok m) (c : Dev nD) (t : Fin (cfgM m hO).N) : (datsAny m hO 0 c).after 0 t = iblk m hO c 0 t := by dsimp only [datsAny]; try rfl
theorem datsAny_1 (hO : Ok m) (c : Dev nD) (t : Fin (cfgM m hO).N) : (datsAny m hO 0 c).after 1 t = iblk m hO c 1 t := by dsimp only [datsAny]; try rfl
theorem beforeAny_0 (hO : Ok m) (c : Dev nD) (t : Fin (cfgM m hO).N) (d) : (datsAny m hO 0 c).before 0 t d = iblk m hO c 0 t :=
  before_0_of m hO (datsAny m hO 0 c) (datsAny_A m hO c 0) (datsAny_0 m hO c) t d
theorem beforeAny_1 (hO : Ok m) (c : Dev nD) (t : Fin (cfgM m hO).N) (d) : (datsAny m hO 0 c).before 1 t d = iblk m hO c 1 t :=
  before_1_of m hO (datsAny m hO 0 c) (datsAny_A m hO c 1) (datsAny_1 m hO c) t d

set_option maxHeartbeats 1600000 in
/-- The body at any point. -/
theorem bodyAny (hO : Ok m) (c : Dev nD) (t : Fin (cfgM m hO).N) :
    iprop(iprop(Pipeline.ΦA spec0 c ∗ Pipeline.ΦT pre0 (tbl m) c) ∗ (datsAny m hO 0 c).owesAt () t.castSucc
    ∗ (∃ d, owns (c : Thread nD τ) (ms0 m hO t) fullShare ((datsAny m hO 0 c).before 0 t d))
    ∗ (∃ d, owns (c : Thread nD τ) (ms1 m hO t) fullShare ((datsAny m hO 0 c).before 1 t d))
    ∗ (∃ X, owns (c : Thread nD τ) (ms2 m hO t) fullShare X))
    ⊢ wp frame (wpE (defs₀ (F := F)) Variants.none c none) Set.univ (bodyAt0 (adm m hO) t) (fun _ =>
      iprop(iprop(Pipeline.ΦA spec0 c ∗ Pipeline.ΦT pre0 (tbl m) c) ∗ (datsAny m hO 0 c).owesAt () t.succ
    ∗ owns (c : Thread nD τ) (ms0 m hO t) fullShare ((datsAny m hO 0 c).after 0 t)
    ∗ owns (c : Thread nD τ) (ms1 m hO t) fullShare ((datsAny m hO 0 c).after 1 t)
    ∗ (∃ X, owns (c : Thread nD τ) (ms2 m hO t) fullShare X))) := by
  unfold bodyAt0
  simp only [beforeAny_0, beforeAny_1]
  rw [show (datsAny m hO 0 c).owesAt () t.succ = (datsAny m hO 0 c).owesAt () t.castSucc from rfl, datsAny_0, datsAny_1, PhiT_eq, PhiA_eq]
  iintro ⟨⟨⟨⟨%xs, HS⟩, Hg⟩, ⟨HT0, HT1, HT2⟩⟩, Ho, ⟨%d0, H0⟩, ⟨%d1, H1⟩, ⟨%d2, H2⟩⟩
  iapply (run c (grid0.coords t) _ _ _ _ _ _ _ _ (iblk m hO c 0 t) (iblk m hO c 1 t) (tbl m 0) (tbl m 1) (tbl m 2) xs d2 Set.univ _)
  isplitl [H0]; · iexact H0
  isplitl [H1]; · iexact H1
  isplitl [H2]; · iexact H2
  isplitl [HS]; · iexact HS
  isplitl [HT0]; · iexact HT0
  isplitl [HT1]; · iexact HT1
  isplitl [HT2]; · iexact HT2
  iintro ⟨H0, H1, H2, HS, HT0, HT1, HT2⟩
  isplitl [HS Hg HT0 HT1 HT2]
  · isplitl [HS Hg]
    · isplitl [HS]
      · iexists _; iexact HS
      iexact Hg
    isplitl [HT0]; · iexact HT0
    isplitl [HT1]; · iexact HT1
    iexact HT2
  isplitl [Ho]; · iexact Ho
  isplitl [H0]; · iexact H0
  isplitl [H1]; · iexact H1
  iexists _; iexact H2

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem obligationAny (hO : Ok m) (c : Dev nD) : Pipeline.BodyObligationLoose (datsAny (F := F) m hO 0 c) (defs₀ (F := F)) Variants.none () Set.univ hide := fun t => by
  rw [bigSep_W0, bigSep_W0, defs₀_row m hO]
  exact triple_restated (bodyAny m hO c t) rfl .rfl fun _ => .rfl

set_option backward.isDefEq.respectTransparency.types false in
theorem runAny (hO : Ok m) : θ_run defs (onTc (τ := τ) (main (F := F))) (s₀ m ρ) (fun r =>
    Pipeline.RDat.FramePost (cfgM m hO) (fun c => (datsAny m hO 0 c).toRForget hide) (V m) r ∧ r.2.sem = fun _ => 0) :=
  Pipeline.θ_run_frameP_forget (Q' := _) pcfgs (fun _ => adm m hO) (datsAny m hO) (0 : Fin 1) launch0 defs₀ Variants.none hide m ρ main
    (hbody := obligationAny m hO) (hshare := fun c => (datsAny m hO 0 c).share_full fun _ => rfl)
    (howed := fun _ _ => rfl) (V := V m) (hmain := hmain m Variants.none) (hA := datsAny_A m hO) (hpf := V_pre m)
    (hΦ := fun _ _ => rfl)

/-- The frame: every run ends, with the arguments as they were and every counter at zero. -/
theorem frame_any (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.arr_in c 0 rfl).trans (datsAny_A m hO c 0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      (h.1.arr_in c 1 rfl).trans (datsAny_A m hO c 1)⟩, h.2⟩) (runAny m ρ hO)

/-- Where every block's expert is one of the 32, every block the table names lies inside the weights. -/
theorem ok_of_le (he : ∀ b : Fin 96, (tbl m 0 (ix1 b) : BitVec 32).toNat ≤ 31) : Ok m := fun i => by
  have hi : (i 0).val < 1 := (i 0).isLt
  have h : (tbl m 0 (ix1 (⟨(i 1).val, (i 1).isLt⟩ : Fin 96)) : BitVec 32).toNat ≤ 31 := he _
  have e : ((tbl m).at 0 (Rect.unit (s := S96) (k0_off1 i) S1.size (k0_off1_inb i)) numel1_S1 : BitVec 32) = tbl m 0 (ix1 (⟨(i 1).val, (i 1).isLt⟩ : Fin 96)) :=
    read_word1 i (tbl m 0) numel1_S1
  have z : (BitVec.ofNat 32 (i 0).val).toNat = 0 := by rw [BitVec.toNat_ofNat]; omega
  refine ⟨fun a => ?_, Or.inl rfl⟩
  match a with
  | ⟨0, _⟩ => show (0 + 1) * 1 ≤ 2; omega
  | ⟨1, _⟩ =>
    show (((tbl m).at 0 (Rect.unit (s := S96) (k0_off1 i) S1.size (k0_off1_inb i)) numel1_S1 : BitVec 32).toNat + 1) * 1 ≤ 32
    rw [e]; omega
  | ⟨2, _⟩ => show (0 + 1) * 1024 ≤ 1024; omega
  | ⟨3, _⟩ =>
    show ((BitVec.ofNat 32 (i 0).val).toNat + 1) * 4096 ≤ 4096
    rw [z]

end Cert.DownIdeal.Moe

end
-- ==== Proof.Moe.Exact.lean ====
/- The launch of the expert down-projection with the output named: the carried expert matrix and each output block. -/
module

public import proofs.«01_k».proof.Proof.Moe.Frame

@[expose] public section

set_option maxRecDepth 16384

noncomputable section

namespace Cert.DownIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal Cert.DownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the exact launch asks of the tables: every count has a case, and the first block loads its expert. -/
structure Routed : Prop where
  cases : ∀ i : grid0.Coords, k0_cond4 (word (tbl m 1) i) = 1#1 ∨ k0_cond3 (word (tbl m 1) i) = 1#1 ∨ k0_cond2 (word (tbl m 1) i) = 1#1
  first : ∀ t : Fin grid0.N, t.val = 0 → word (tbl m 2) (grid0.coords t) = 1#32

/-- The carried expert matrix after each point. -/
def scAt (hO : Ok m) (c : Dev nD) : (n : ℕ) → n < (cfgM m hO).N → Vec F S1024x4096 .bf16
  | 0, hn => k0_pay1 (iblk m hO c 1 ⟨0, hn⟩)
  | n + 1, hn => scOf (word (tbl m 2) (grid0.coords ⟨n + 1, hn⟩)) (iblk m hO c 1 ⟨n + 1, hn⟩) (scAt hO c n (Nat.lt_of_succ_lt hn))

/-- The output block after each point. -/
def outAt (hO : Ok m) (c : Dev nD) (t : Fin (cfgM m hO).N) : Vec F S256x4096 .f32 :=
  outOf (word (tbl m 1) (grid0.coords t)) (iblk m hO c 0 t) (scAt m hO c t.val t.isLt) (k0_pay5 (F := F))

theorem scOf_first (x1 : Vec F S1x1x1024x4096 .f32) (xs : Vec F S1024x4096 .bf16) : scOf 1#32 x1 xs = k0_pay1 x1 := by
  unfold scOf; exact if_pos (by decide)

theorem scAt_pos (hO : Ok m) (c : Dev nD) (t : Fin (cfgM m hO).N) (hz : t.val ≠ 0) :
    scAt m hO c t.val t.isLt = scOf (word (tbl m 2) (grid0.coords t)) (iblk m hO c 1 t) (scAt m hO c (t.val - 1) (Nat.lt_of_le_of_lt (Nat.sub_le _ _) t.isLt)) := by
  obtain ⟨n, hn⟩ := t
  cases n with
  | zero => exact absurd rfl hz
  | succ n => rfl
theorem scAt_zero (hO : Ok m) (hR : Routed m) (c : Dev nD) (t : Fin (cfgM m hO).N) (hz : t.val = 0) (xs : Vec F S1024x4096 .bf16) :
    scAt m hO c t.val t.isLt = scOf (word (tbl m 2) (grid0.coords t)) (iblk m hO c 1 t) xs := by
  obtain ⟨n, hn⟩ := t
  obtain rfl : n = 0 := hz
  exact ((congrArg (fun w => scOf w (iblk m hO c 1 ⟨0, hn⟩) xs) (hR.first ⟨0, hn⟩ rfl)).trans (scOf_first _ _)).symm

theorem outOf_any (n : BitVec 32) (h : k0_cond4 n = 1#1 ∨ k0_cond3 n = 1#1 ∨ k0_cond2 n = 1#1) (x0 : Vec F S256x1024 .bf16) (s : Vec F S1024x4096 .bf16) (d d' : Vec F S256x4096 .f32) :
    outOf n x0 s d = outOf n x0 s d' := by
  unfold outOf
  split
  · rfl
  · split
    · rfl
    · split
      · rfl
      · next h4 h3 h2 => exact absurd h (by rintro (h | h | h) <;> contradiction)

/-- The carried matrix before position `n`: at anything before the first point, then as the point before left it. -/
def Phi (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(owns (c : Thread nD τ) sc fullShare (scAt m hO c n hn) ∗ (∃ r, prngReg c r)) ∗ Pipeline.ΦT pre0 (tbl m) c)
theorem Phi_zero (hO : Ok m) (c : Dev nD) (n : ℕ) (h : n ≤ (cfgM m hO).N) (hz : n = 0) : Phi m hO c n h = iprop(Pipeline.ΦA spec0 c ∗ Pipeline.ΦT pre0 (tbl m) c) := by
  subst hz; rfl
theorem Phi_succ (hO : Ok m) (c : Dev nD) (n : ℕ) (hn : n < (cfgM m hO).N) :
    Phi m hO c (n + 1) hn = iprop(iprop(owns (c : Thread nD τ) sc fullShare (scAt m hO c n hn) ∗ (∃ r, prngReg c r)) ∗ Pipeline.ΦT pre0 (tbl m) c) := rfl
theorem Phi_pos (hO : Ok m) (c : Dev nD) (n : ℕ) (h : n ≤ (cfgM m hO).N) (hz : n ≠ 0) :
    Phi m hO c n h = iprop(iprop(owns (c : Thread nD τ) sc fullShare (scAt m hO c (n - 1) (by omega)) ∗ (∃ r, prngReg c r)) ∗ Pipeline.ΦT pre0 (tbl m) c) := by
  cases n with
  | zero => exact absurd rfl hz
  | succ n => rfl

/-- The proof data of the launch. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ t := Phi m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem Phi_castSucc (hO : Ok m) (c : Dev nD) (t : Fin (cfgM m hO).N) :
    (dats m hO 0 c).Φ t.castSucc = Phi m hO c t.val (Nat.le_of_lt t.isLt) := by
  dsimp only [dats]; exact Pipeline.Dat.Φ_castSucc (Phi m hO c) t
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = outAt m hO c t := by dsimp only [dats]; try rfl
theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d

theorem atD_word (i : grid0.Coords) : (tbl m).atD 1 (k0_off2 i) = word (tbl m 1) i := by
  have hi : (i 1).val < 96 := (i 1).isLt
  have hv : (BitVec.ofNat 32 (i 1).val).toNat = (i 1).val := by rw [BitVec.toNat_ofNat]; omega
  have h : ∀ a, (k0_off2 i) a + 1 ≤ (pre0.ref 1).ty.shape.size a := fun a => by
    obtain rfl : a = (0 : Fin 1) := Subsingleton.elim (α := Fin 1) _ _
    show (BitVec.ofNat 32 (i 1).val).toNat + 1 ≤ 96
    omega
  refine (dif_pos h).trans (congrArg (tbl m 1) (funext fun a => Fin.ext ?_))
  obtain rfl : a = (0 : Fin 1) := Subsingleton.elim (α := Fin 1) _ _
  exact hv

/-- Every point stores into its output block. -/
theorem live_2 (hO : Ok m) (hR : Routed m) (t : Fin (cfgM m hO).N) : (cfgM m hO).idle 2 (grid0.coords t) = false := by
  show (!(k0_cond2 ((tbl m).atD 1 (k0_off2 (grid0.coords t))) == 1#1) && !(k0_cond3 ((tbl m).atD 1 (k0_off2 (grid0.coords t))) == 1#1) && !(k0_cond4 ((tbl m).atD 1 (k0_off2 (grid0.coords t))) == 1#1)) = false
  rw [atD_word]
  rcases hR.cases (grid0.coords t) with h | h | h <;> rw [h] <;> simp

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t)

set_option maxHeartbeats 1600000 in
/-- The body at a point, from any contents of the carried matrix that lead to the ones named. -/
theorem body_from (hO : Ok m) (hR : Routed m) (c : Dev nD) (t : Fin (cfgM m hO).N) (xs : Vec F S1024x4096 .bf16)
    (hs : scAt m hO c t.val t.isLt = scOf (word (tbl m 2) (grid0.coords t)) (iblk m hO c 1 t) xs) :
    iprop(iprop(iprop(owns (c : Thread nD τ) sc fullShare xs ∗ (∃ r, prngReg c r)) ∗ Pipeline.ΦT pre0 (tbl m) c) ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))
    ⊢ wp frame (wpE (defs₀ (F := F)) Variants.none c none) Set.univ (bodyAt0 (adm m hO) t) (fun _ => bodyPost m hO c t) := by
  unfold bodyPost bodyAt0
  simp only [before_0, before_1]
  rw [show (dats m hO 0 c).owesAt () t.succ = (dats m hO 0 c).owesAt () t.castSucc from rfl,
    show (dats m hO 0 c).Φ t.succ = Phi m hO c (t.val + 1) t.isLt from rfl, Phi_succ,
    show (dats m hO 0 c).leavesExact 0 t = owns (c : Thread nD τ) (ms0 m hO t) fullShare ((dats m hO 0 c).after 0 t) from rfl,
    show (dats m hO 0 c).leavesExact 1 t = owns (c : Thread nD τ) (ms1 m hO t) fullShare ((dats m hO 0 c).after 1 t) from rfl,
    show (dats m hO 0 c).leavesExact 2 t = owns (c : Thread nD τ) (ms2 m hO t) fullShare ((dats m hO 0 c).after 2 t) from by
      unfold Dat.leavesExact; rw [live_2 m hO hR t]; rfl,
    after_0, after_1, after_2, PhiT_eq]
  unfold outAt
  rw [hs]
  iintro ⟨⟨⟨HS, Hg⟩, ⟨HT0, HT1, HT2⟩⟩, Ho, ⟨%d0, H0⟩, ⟨%d1, H1⟩, ⟨%d2, H2⟩⟩
  rw [outOf_any _ (hR.cases (grid0.coords t)) (iblk m hO c 0 t) (scOf (word (tbl m 2) (grid0.coords t)) (iblk m hO c 1 t) xs) (k0_pay5 (F := F)) ((dats m hO 0 c).before 2 t d2)]
  iapply (run c (grid0.coords t) _ _ _ _ _ _ _ _ (iblk m hO c 0 t) (iblk m hO c 1 t) (tbl m 0) (tbl m 1) (tbl m 2) xs ((dats m hO 0 c).before 2 t d2) Set.univ _)
  isplitl [H0]; · iexact H0
  isplitl [H1]; · iexact H1
  isplitl [H2]; · iexact H2
  isplitl [HS]; · iexact HS
  isplitl [HT0]; · iexact HT0
  isplitl [HT1]; · iexact HT1
  isplitl [HT2]; · iexact HT2
  iintro ⟨H0, H1, H2, HS, HT0, HT1, HT2⟩
  isplitl [HS Hg HT0 HT1 HT2]
  · isplitl [HS Hg]
    · isplitl [HS]
      · iexact HS
      iexact Hg
    isplitl [HT0]; · iexact HT0
    isplitl [HT1]; · iexact HT1
    iexact HT2
  isplitl [Ho]; · iexact Ho
  isplitl [H0]; · iexact H0
  isplitl [H1]; · iexact H1
  iexact H2

theorem sound_body (hO : Ok m) (hR : Routed m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre
  by_cases hz : t.val = 0
  · rw [Phi_castSucc m hO c t, Phi_zero m hO c _ _ hz, PhiA_eq]
    iintro ⟨⟨⟨⟨%xs, HS⟩, Hg⟩, HT⟩, Hr⟩
    iapply (body_from m hO hR c t xs (scAt_zero m hO hR c t hz xs))
    isplitl [HS Hg HT]
    · isplitl [HS Hg]
      · isplitl [HS]
        · iexact HS
        iexact Hg
      iexact HT
    iexact Hr
  · rw [Phi_castSucc m hO c t, Phi_pos m hO c _ _ hz]
    exact body_from m hO hR c t _ (scAt_pos m hO c t hz)

theorem body_obligation (hO : Ok m) (hR : Routed m) (c : Dev nD) : BodyObligation (dats (F := F) m hO 0 c) (defs₀ (F := F)) Variants.none () Set.univ := fun t => by
  rw [bigSep_W0, bigSep_W0, defs₀_row m hO]
  exact triple_restated (sound_body m hO hR c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 (Nat.zero_le _) from rfl, Phi_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = Phi m hO c t.val (Nat.le_of_lt_succ t.isLt) from rfl, Phi_pos m hO c _ _ ht, PhiA_eq]
  iintro ⟨⟨HS, Hg⟩, -⟩
  isplitl [HS]
  · iexists _; iexact HS
  iexact Hg
theorem hout (hO : Ok m) (c : Dev nD) : (dats m hO 0 c).Φ (Fin.last (cfgM m hO).N) ⊢ Pipeline.ΦA spec0 c :=
  Phi_out m hO c _ (by rw [Fin.val_last]; have : (cfgM m hO).N = 96 := N_0; omega)

set_option backward.isDefEq.respectTransparency.types false in
/-- The launch: every array ends as the proof data say. -/
theorem run_main (hO : Ok m) (hR : Routed m) : θ_run defs (onTc (τ := τ) (main (F := F))) (s₀ m ρ) (Pipeline.FramePost (Pipeline.pin pcfgs fun _ => adm m hO) (dats m hO) 0 (V m)) :=
  Pipeline.θ_run_frameP_track pcfgs (fun _ => adm m hO) (dats m hO) (0 : Fin 1) launch0 defs₀ Variants.none m ρ main
    (hbody := fun c => (body_obligation m hO hR c).loose) (hshare := fun c => (dats m hO 0 c).share_full fun _ => rfl)
    (howed := fun _ _ => rfl) (V := V m) (hmain := hmain m Variants.none) (hA := A_eq m hO) (hpf := V_pre m)
    (hin := hin m hO) (hout := hout m hO)

end Cert.DownIdeal.Moe

end
-- ==== Proof.Moe.Ref.lean ====
/- The reference of the expert down-projection, read at an index. -/
module

public import proofs.«01_k».proof.DownRefIdeal
public import proofs.«01_k».proof.Proof.Gen.DownRefIdeal
public import Idealize.ShloMosaic.Lib.Tactic
public import Idealize.ShloMosaic.Lib.Pipeline.ValueKit

@[expose] public section

set_option maxRecDepth 16384

noncomputable section

namespace Cert.DownRefIdeal.Moe

open Idealize.ShloMosaic Idealize.ShloMosaic.TcCoe Idealize.ShloMosaic.Tactic
open Idealize.ShloMosaic.StableHlo
open Cert.DownRefIdeal Cert.DownRefIdeal.Gen

/-- A table's word as the number of an expert. -/
def ex (w : BitVec 32) : Fin 32 := ⟨min w.toNat 31, by omega⟩

/-- The start index a block reads its expert at: its layer, and the word of the table. -/
abbrev starts (e : IVec S96 32) : IVec S96x2 32 :=
  concatenate S96x2 1 [⟨S96x1, (broadcastInDim S96x1 ![0] bcast_S96_S96x1_0 (id (broadcastInDim S96 ![] bcast_S_S96 (constantI S_ 32 0#32))))⟩, ⟨S96x1, (broadcastInDim S96x1 ![0] bcast_S96_S96x1_0 (select (cmpi .slt e (broadcastInDim S96 ![] bcast_S_S96 (constantI S_ 32 0#32))) (addi e (broadcastInDim S96 ![] bcast_S_S96 (constantI S_ 32 32#32))) e))⟩] concatenates_S96x1_S96x1_S96x2_d1

/-- The gathered matrices: one expert matrix to each block. -/
abbrev mats (e : IVec S96 32) (w : FVec Ideal S2x32x1024x4096 .f32) : FVec Ideal S96x1024x4096 .f32 :=
  Host.gather gather_S2x32x1024x4096_S96x2_S96x1024x4096_12_01_n_n_01_1_1110244096 w (starts e)

/-- The reference's result from its arguments. -/
abbrev REF (h : FVec Ideal S24576x1024 .bf16) (e : IVec S96 32) (w : FVec Ideal S2x32x1024x4096 .f32) : FVec Ideal S24576x4096 .f32 :=
  shapeCast _ (Host.dotGeneral dot_S96x256x1024_S96x1024x4096_S96x256x4096_2_1_1_2_0_0 none (extf .f32 (shapeCast _ h shapeCasts_S24576x1024_S96x256x1024) bitsLt_bf16_f32) (mats e w)) shapeCasts_S96x256x4096_S24576x4096

theorem REF_congr {h h' : FVec Ideal S24576x1024 .bf16} {e e' : IVec S96 32} {w w' : FVec Ideal S2x32x1024x4096 .f32}
    (eh : h' = h) (ee : e' = e) (ew : w' = w) : REF h' e' w' = REF h e w := by
  rw [eh, ee, ew]

theorem starts_0 (e : IVec S96 32) (b : Fin 96) : starts e (ix2 b (0 : Fin 2)) = 0#32 := by
  pointwise [starts]
  rfl
theorem starts_1 (e : IVec S96 32) (b : Fin 96) (he : (e (ix1 b)).toNat ≤ 31) : starts e (ix2 b (1 : Fin 2)) = e (ix1 b) := by
  pointwise [starts]
  have hz : IntOp.cmpi .slt (e (ix1 b)) 0#32 = 0#1 := by
    show BitVec.ofBool (BitVec.slt (e (ix1 b)) 0#32) = BitVec.ofBool false
    rw [BitVec.slt_eq_decide, decide_eq_false (by rw [BitVec.toInt_eq_toNat_of_lt (by omega)]; simp)]
  rw [hz]
  rfl

theorem mats_at (e : IVec S96 32) (w : FVec Ideal S2x32x1024x4096 .f32) (he : ∀ b : Fin 96, (e (ix1 b)).toNat ≤ 31) (b : Fin 96) (k : Fin 1024) (j : Fin 4096) :
    mats e w (ix3 b k j) = w (ix4 (0 : Fin 2) (ex (e (ix1 b))) k j) := by
  unfold mats Host.gather
  refine congrArg w (funext fun a => Fin.ext ?_)
  let d := gather_S2x32x1024x4096_S96x2_S96x1024x4096_12_01_n_n_01_1_1110244096
  have k0 : (0 : Fin 4) ∉ gather_S2x32x1024x4096_S96x2_S96x1024x4096_12_01_n_n_01_1_1110244096.sKept := by decide
  have k1 : (1 : Fin 4) ∉ gather_S2x32x1024x4096_S96x2_S96x1024x4096_12_01_n_n_01_1_1110244096.sKept := by decide
  have hb : ∀ a, a ∉ d.operandBatchingDims := fun a => List.not_mem_nil
  have h0 : d.siIdx (ix3 b k j) ⟨0, by decide⟩ = ix2 b (0 : Fin 2) := by
    funext x; apply Fin.ext; match x with | ⟨0, _⟩ => rfl | ⟨1, _⟩ => rfl
  have h1 : d.siIdx (ix3 b k j) ⟨1, by decide⟩ = ix2 b (1 : Fin 2) := by
    funext x; apply Fin.ext; match x with | ⟨0, _⟩ => rfl | ⟨1, _⟩ => rfl
  show d.start (ix3 b k j) (starts e) a + d.batchCoord (ix3 b k j) a + d.offCoord (ix3 b k j) a = _
  rw [d.batchCoord_eq_zero _ _ (hb a)]
  match a with
  | ⟨0, _⟩ =>
    refine (congrArg (_ + 0 + ·) (d.offCoord_eq_zero (ix3 b k j) 0 k0)).trans ?_
    show min (starts e (d.siIdx (ix3 b k j) ⟨0, by decide⟩)).toInt.toNat 1 = 0
    rw [h0, starts_0]; rfl
  | ⟨1, _⟩ =>
    refine (congrArg (_ + 0 + ·) (d.offCoord_eq_zero (ix3 b k j) 1 k1)).trans ?_
    show min (starts e (d.siIdx (ix3 b k j) ⟨1, by decide⟩)).toInt.toNat 31 = min (e (ix1 b)).toNat 31
    rw [h1, starts_1 e b (he b), BitVec.toInt_eq_toNat_of_lt (by have := he b; omega), Int.toNat_natCast]
  | ⟨2, _⟩ =>
    show 0 + 0 + k.val = k.val
    omega
  | ⟨3, _⟩ =>
    show 0 + 0 + j.val = j.val
    omega

theorem REF_at (h : FVec Ideal S24576x1024 .bf16) (e : IVec S96 32) (w : FVec Ideal S2x32x1024x4096 .f32) (he : ∀ b : Fin 96, (e (ix1 b)).toNat ≤ 31) (b : Fin 96) (r : Fin 256) (j : Fin 4096) :
    REF h e w (ix2 (⟨256 * b.val + r.val, by omega⟩ : Fin 24576) j) = ∑ k : Fin 1024, h (ix2 (⟨256 * b.val + r.val, by omega⟩ : Fin 24576) k) * w (ix4 (0 : Fin 2) (ex (e (ix1 b))) k j) := by
  pointwise [REF]
  have hr : (⟨b.val * 256 + r.val, by omega⟩ : Fin 24576) = ⟨256 * b.val + r.val, by omega⟩ := Fin.ext (by show b.val * 256 + r.val = 256 * b.val + r.val; omega)
  refine Finset.sum_congr rfl fun k _ => ?_
  rw [mats_at e w he, hr]

end Cert.DownRefIdeal.Moe

end
-- ==== Proof.Moe.Value.lean ====
/- The expert down-projection's result: each row of a block times the block's expert matrix. -/
module

public import proofs.«01_k».proof.Proof.Moe.Exact
public import proofs.«01_k».proof.Proof.Moe.Ref

@[expose] public section

set_option maxRecDepth 16384

noncomputable section

namespace Cert.DownIdeal.Moe

open Idealize.ShloMosaic Idealize.ShloMosaic.TcCoe Idealize.ShloMosaic.Tactic
open Idealize.ShloMosaic.Pipeline (Dat Cfg Window)
open Cert.DownIdeal Cert.DownIdeal.Gen
open Cert.DownRefIdeal.Moe (ex REF)

variable (m : (ℓ : Loc nD τ sig) → Buf (Elt Ideal) ℓ)

/-- The arguments as arrays. -/
abbrev hid : FVec Ideal S24576x1024 .bf16 := m (((0 : Dev nD) : Thread nD τ).loc main_arg0)
abbrev exp : IVec S96 32 := m (((0 : Dev nD) : Thread nD τ).loc main_arg1)
abbrev cnt : IVec S96 32 := m (((0 : Dev nD) : Thread nD τ).loc main_arg2)
abbrev chg : IVec S96 32 := m (((0 : Dev nD) : Thread nD τ).loc main_arg3)
abbrev wts : FVec Ideal S2x32x1024x4096 .f32 := m (((0 : Dev nD) : Thread nD τ).loc main_arg4)

/-- What the routing tables and the hidden rows satisfy. -/
structure Tables : Prop where
  expert : ∀ b : Fin 96, (exp m (ix1 b)).toNat ≤ 31
  nonneg : ∀ b : Fin 96, 0 ≤ (cnt m (ix1 b)).toInt
  first : chg m (ix1 (0 : Fin 96)) = 1#32
  kept : ∀ (n : ℕ) (h : n + 1 < 96), chg m (ix1 (⟨n + 1, h⟩ : Fin 96)) = 1#32 ∨ exp m (ix1 (⟨n + 1, h⟩ : Fin 96)) = exp m (ix1 (⟨n, by omega⟩ : Fin 96))
  zero : ∀ (b : Fin 96) (r : Fin 256) (k : Fin 1024), ((cnt m (ix1 b)).toInt ≤ 128 ∧ 128 ≤ r.val ∨ cnt m (ix1 b) = 0#32) →
    hid m (ix2 (⟨256 * b.val + r.val, by omega⟩ : Fin 24576) k) = 0

theorem coords_0 : ∀ t : Fin grid0.N, (grid0.coords t 0).val = 0 := by decide +kernel
theorem coords_1 : ∀ t : Fin grid0.N, (grid0.coords t 1).val = t.val := by decide +kernel
theorem lt96 (t : Fin grid0.N) : t.val < 96 := t.isLt

theorem word_at (x : S96.Idx → BitVec 32) (t : Fin grid0.N) : word x (grid0.coords t) = x (ix1 (⟨t.val, lt96 t⟩ : Fin 96)) := by
  unfold word
  refine congrArg x (congrArg ix1 (Fin.ext ?_))
  exact coords_1 t

theorem index_0 (hO : Ok m) (t : Fin (cfgM m hO).N) : ((cfgM m hO).win 0).index t = ![t.val, 0] := by
  have h := coords_1 t
  have hv := lt96 t
  show ![(BitVec.ofNat 32 (grid0.coords t 1).val).toNat, (0#32 : BitVec 32).toNat] = ![t.val, 0]
  rw [h, BitVec.toNat_ofNat, Nat.mod_eq_of_lt (by omega)]; rfl
theorem index_2 (hO : Ok m) (t : Fin (cfgM m hO).N) : ((cfgM m hO).win 2).index t = ![t.val, 0] := by
  have h := coords_1 t
  have h0 := coords_0 t
  have hv := lt96 t
  show ![(BitVec.ofNat 32 (grid0.coords t 1).val).toNat, (BitVec.ofNat 32 (grid0.coords t 0).val).toNat] = ![t.val, 0]
  rw [h, h0, BitVec.toNat_ofNat, Nat.mod_eq_of_lt (by omega)]; rfl
theorem index_1 (hO : Ok m) (t : Fin (cfgM m hO).N) : ((cfgM m hO).win 1).index t = ![0, (exp m (ix1 (⟨t.val, lt96 t⟩ : Fin 96))).toNat, 0, 0] := by
  have h0 := coords_0 t
  have e : (tbl m).at 0 (Rect.unit (s := S96) (k0_off1 (grid0.coords t)) S1.size (k0_off1_inb (grid0.coords t))) numel1_S1 = exp m (ix1 (⟨t.val, lt96 t⟩ : Fin 96)) :=
    (read_word1 (grid0.coords t) (tbl m 0) numel1_S1).trans (word_at (tbl m 0) t)
  show ![(0#32 : BitVec 32).toNat, ((tbl m).at 0 (Rect.unit (s := S96) (k0_off1 (grid0.coords t)) S1.size (k0_off1_inb (grid0.coords t))) numel1_S1 : BitVec 32).toNat, (0#32 : BitVec 32).toNat, (BitVec.ofNat 32 (grid0.coords t 0).val).toNat] = _
  rw [e, h0]; rfl

theorem iblk_0 (hO : Ok m) (c : Dev nD) (t : Fin (cfgM m hO).N) (r : Fin 256) (k : Fin 1024) :
    iblk m hO c 0 t (ix2 r k) = hid m (ix2 (⟨256 * t.val + r.val, by have := lt96 t; omega⟩ : Fin 24576) k) := by
  obtain rfl : c = 0 := Subsingleton.elim _ _
  unfold iblk
  blk_point [index_0 m hO t]
theorem iblk_1 (hT : Tables m) (hO : Ok m) (c : Dev nD) (t : Fin (cfgM m hO).N) (k : Fin 1024) (j : Fin 4096) :
    iblk m hO c 1 t (ix4 (0 : Fin 1) (0 : Fin 1) k j) = wts m (ix4 (0 : Fin 2) (ex (exp m (ix1 (⟨t.val, lt96 t⟩ : Fin 96)))) k j) := by
  obtain rfl : c = 0 := Subsingleton.elim _ _
  unfold iblk
  blk_point [index_1 m hO t]
  have h := hT.expert ⟨t.val, lt96 t⟩
  show (exp m (ix1 (⟨t.val, lt96 t⟩ : Fin 96))).toNat + 0 = min (exp m (ix1 (⟨t.val, lt96 t⟩ : Fin 96))).toNat 31
  omega

theorem pay1_at (x : Vec Ideal S1x1x1024x4096 .f32) (k : Fin 1024) (j : Fin 4096) : k0_pay1 x (ix2 k j) = x (ix4 (0 : Fin 1) (0 : Fin 1) k j) := by
  pointwise [k0_pay1]
theorem pay2_at (x : Vec Ideal S256x1024 .bf16) (s : Vec Ideal S1024x4096 .bf16) (r : Fin 256) (j : Fin 4096) :
    k0_pay2 x s (ix2 r j) = ∑ k : Fin 1024, x (ix2 r k) * s (ix2 k j) := by
  pointwise [k0_pay2]
theorem pay3_at (x : Vec Ideal S128x1024 .bf16) (s : Vec Ideal S1024x4096 .bf16) (r : Fin 128) (j : Fin 4096) :
    k0_pay3 x s (ix2 r j) = ∑ k : Fin 1024, x (ix2 r k) * s (ix2 k j) := by
  pointwise [k0_pay3]
theorem pay4_at (r : Fin 128) (j : Fin 4096) : k0_pay4 (F := Ideal) (ix2 r j) = 0 := by
  pointwise [k0_pay4]
theorem pay5_at (r : Fin 256) (j : Fin 4096) : k0_pay5 (F := Ideal) (ix2 r j) = 0 := by
  pointwise [k0_pay5]

theorem carried (hT : Tables m) (hO : Ok m) (c : Dev nD) (n : ℕ) (hn : n < (cfgM m hO).N) (k : Fin 1024) (j : Fin 4096) :
    scAt m hO c n hn (ix2 k j) = wts m (ix4 (0 : Fin 2) (ex (exp m (ix1 (⟨n, hn⟩ : Fin 96)))) k j) := by
  induction n with
  | zero => exact (pay1_at _ k j).trans (iblk_1 m hT hO c ⟨0, hn⟩ k j)
  | succ n ih =>
    show scOf (word (tbl m 2) (grid0.coords ⟨n + 1, hn⟩)) (iblk m hO c 1 ⟨n + 1, hn⟩) (scAt m hO c n (Nat.lt_of_succ_lt hn)) (ix2 k j) = _
    unfold scOf
    split
    · exact (pay1_at _ k j).trans (iblk_1 m hT hO c ⟨n + 1, hn⟩ k j)
    · next h =>
      have hw : word (tbl m 2) (grid0.coords ⟨n + 1, hn⟩) = chg m (ix1 (⟨n + 1, hn⟩ : Fin 96)) := word_at (tbl m 2) ⟨n + 1, hn⟩
      have hk := (hT.kept n hn).resolve_left fun e => h (by rw [hw, e]; decide)
      rw [ih, hk]

theorem ne_ext : ∀ v : BitVec 1, Scalar.cmpi .ne (Scalar.extui v : BitVec 32) 0#32 = 1#1 ↔ v = 1#1 := by decide
theorem and_one : ∀ a b : BitVec 1, IntOp.andi a b = 1#1 ↔ a = 1#1 ∧ b = 1#1 := by decide
theorem cond2_iff (n : BitVec 32) : k0_cond2 n = 1#1 ↔ 128 < n.toInt := by
  unfold k0_cond2
  exact (ne_ext _).trans IntOp.cmpi_sgt
theorem cond3_iff (n : BitVec 32) : k0_cond3 n = 1#1 ↔ 0 < n.toInt ∧ n.toInt ≤ 128 := by
  unfold k0_cond3
  exact ((ne_ext _).trans (and_one _ _)).trans (and_congr IntOp.cmpi_sgt IntOp.cmpi_sle)
theorem cond4_iff (n : BitVec 32) : k0_cond4 n = 1#1 ↔ n = 0#32 := by
  unfold k0_cond4
  exact (ne_ext _).trans IntOp.cmpi_eq

theorem routed_of (hT : Tables m) : Routed m where
  cases i := by
    have hn := hT.nonneg ⟨(i 1).val, (i 1).isLt⟩
    have hw : word (tbl m 1) i = cnt m (ix1 (⟨(i 1).val, (i 1).isLt⟩ : Fin 96)) := rfl
    rw [hw, cond2_iff, cond3_iff, cond4_iff]
    by_cases h0 : cnt m (ix1 (⟨(i 1).val, (i 1).isLt⟩ : Fin 96)) = 0#32
    · exact Or.inl h0
    · have : (cnt m (ix1 (⟨(i 1).val, (i 1).isLt⟩ : Fin 96))).toInt ≠ 0 := fun h => h0 (BitVec.eq_of_toInt_eq (by rw [h]; rfl))
      omega
  first t ht := by
    refine (word_at (tbl m 2) t).trans (Eq.trans ?_ hT.first)
    exact congrArg (fun b => chg m (ix1 b)) (Fin.ext ht)

theorem out_at (hT : Tables m) (hO : Ok m) (c : Dev nD) (t : Fin (cfgM m hO).N) (r : Fin 256) (j : Fin 4096) :
    outAt m hO c t (ix2 r j) = REF (hid m) (exp m) (wts m) (ix2 (⟨256 * t.val + r.val, by have := lt96 t; omega⟩ : Fin 24576) j) := by
  refine Eq.trans ?_ (Cert.DownRefIdeal.Moe.REF_at (hid m) (exp m) (wts m) hT.expert ⟨t.val, lt96 t⟩ r j).symm
  have hz := hT.zero ⟨t.val, lt96 t⟩ r
  have hn := hT.nonneg ⟨t.val, lt96 t⟩
  have hw : word (tbl m 1) (grid0.coords t) = cnt m (ix1 (⟨t.val, lt96 t⟩ : Fin 96)) := word_at (tbl m 1) t
  unfold outAt outOf
  rw [hw]
  split
  · next h =>
    have h := (cond4_iff _).1 h
    refine (pay5_at r j).trans (Finset.sum_eq_zero fun k _ => ?_).symm
    rw [hz k (Or.inr h), zero_mul]
  · split
    · next h3 =>
      have h3 := (cond3_iff _).1 h3
      unfold halfOf
      split
      · next hr =>
        refine (pay3_at _ _ _ _).trans (Finset.sum_congr rfl fun k _ => ?_)
        exact congrArg₂ (· * ·) (iblk_0 m hO c t r k) (carried m hT hO c t.val t.isLt k j)
      · next hr =>
        refine (pay4_at _ _).trans (Finset.sum_eq_zero fun k _ => ?_).symm
        rw [hz k (Or.inl ⟨h3.2, Nat.le_of_not_lt hr⟩), zero_mul]
    · split
      · refine (pay2_at _ _ _ _).trans (Finset.sum_congr rfl fun k _ => ?_)
        exact congrArg₂ (· * ·) (iblk_0 m hO c t r k) (carried m hT hO c t.val t.isLt k j)
      · next h4 h3 h2 =>
        have : (cnt m (ix1 (⟨t.val, lt96 t⟩ : Fin 96))).toInt ≠ 0 := fun h => h4 ((cond4_iff _).2 (BitVec.eq_of_toInt_eq (by rw [h]; rfl)))
        rw [cond3_iff] at h3
        rw [cond2_iff] at h2
        omega

theorem point (hT : Tables m) (hO : Ok m) (c : Dev nD) (t : Fin (cfgM m hO).N) (y : S256x4096.Idx) :
    outAt m hO c t y = REF (hid m) (exp m) (wts m) ((((cfgM m hO).win 2).blk t).view.emb y) := by
  refine (congrArg (outAt m hO c t) (eq_ix2 y)).trans ((out_at m hT hO c t (y 0) (y 1)).trans ?_)
  blk_point [index_2 m hO t]

/-- The output's blocks are written back once each, and they cover the array. -/
theorem covers (hO : Ok m) : ((cfgM m hO).win 2).Covers := by
  refine ⟨(by decide : ∀ a : Fin 2, 0 < S256x4096.size a), fun β => ?_⟩
  have h0 : (β (0 : Fin 2)).val < 96 := Nat.lt_of_lt_of_eq (β (0 : Fin 2)).isLt (show (24576 + 256 - 1) / 256 = 96 from rfl)
  have h1 : (β (1 : Fin 2)).val < 1 := Nat.lt_of_lt_of_eq (β (1 : Fin 2)).isLt (show (4096 + 4096 - 1) / 4096 = 1 from rfl)
  refine ⟨⟨(β (0 : Fin 2)).val, h0⟩, ?_, fun a => ⟨?_, Or.inl rfl⟩⟩
  · unfold Window.flush
    refine Bool.and_eq_true_iff.2 ⟨rfl, ?_⟩
    rw [Bool.or_eq_true, decide_eq_true_eq, decide_eq_true_eq]
    by_cases hl : (β (0 : Fin 2)).val + 1 = 96
    · exact Or.inl hl
    · refine Or.inr ⟨(by omega : (β (0 : Fin 2)).val + 1 < 96), fun e => ?_⟩
      rw [index_2, index_2] at e
      have e0 : (β (0 : Fin 2)).val + 1 = (β (0 : Fin 2)).val := congrFun e (0 : Fin 2)
      omega
  · refine (congrFun (index_2 m hO ⟨(β (0 : Fin 2)).val, h0⟩) a).trans ?_
    match a with
    | ⟨0, _⟩ => rfl
    | ⟨1, _⟩ => exact (Nat.lt_one_iff.1 h1).symm

theorem final (hT : Tables m) (hO : Ok m) (c : Dev nD) : (dats m hO 0 c).arrAt 2 (cfgM m hO).N = REF (hid m) (exp m) (wts m) := by
  refine (dats m hO 0 c).arrAt_eq_of_covers 2 _ (covers m hO) fun t _ y => ?_
  blk_simp
  rw [after_2]
  exact point m hT hO c t y

end Cert.DownIdeal.Moe

end
-- ==== Proof.Moe.Pre.lean ====
/- The preconditions of the expert down-projection, read as statements about the routing tables and the hidden rows. -/
module

public import proofs.«01_k».proof.Proof.Gen.Pre_in_range
public import proofs.«01_k».proof.Proof.Gen.Pre_routed
public import Idealize.ShloMosaic.Lib.ReduceAll
public import Idealize.ShloMosaic.Lib.IdealHost
public import Idealize.ShloMosaic.Lib.WordCmp
public import Idealize.ShloMosaic.Lib.Pipeline.ValueKit

@[expose] public section

set_option maxRecDepth 16384

noncomputable section

open Idealize.ShloMosaic Idealize.ShloMosaic.TcCoe

namespace Cert.MoePre

theorem and_one : ∀ a b : BitVec 1, IntOp.andi a b = 1#1 → a = 1#1 ∧ b = 1#1 := by decide
theorem or_one : ∀ a b : BitVec 1, IntOp.ori a b = 1#1 → a = 1#1 ∨ b = 1#1 := by decide

/-- A word between 0 and 31, read signed, is at most 31 as a natural number. -/
theorem le_of_range (e : BitVec 32) (h0 : IntOp.cmpi .sge e 0#32 = 1#1) (h1 : IntOp.cmpi .sle e 31#32 = 1#1) : e.toNat ≤ 31 := by
  have a := IntOp.cmpi_sge.1 h0
  have b := IntOp.cmpi_sle.1 h1
  have c := BitVec.toInt_eq_toNat_cond e
  have z : (0#32 : BitVec 32).toInt = 0 := rfl
  have o : (31#32 : BitVec 32).toInt = 31 := rfl
  have l := e.isLt
  split at c <;> omega

instance : Subsingleton Cert.Pre_in_range.S_.Idx := ⟨fun a b => funext fun k => k.elim0⟩
instance : Subsingleton Cert.Pre_routed.S_.Idx := ⟨fun a b => funext fun k => k.elim0⟩

section
variable {F : FTy → Type} [FloatOps F]

theorem in_range_le [Cert.Pre_in_range.Facts] (a0 : FVec F Cert.Pre_in_range.S24576x1024 .bf16) (a1 a2 a3 : IVec Cert.Pre_in_range.S96 32) (a4 : FVec F Cert.Pre_in_range.S2x32x1024x4096 .f32)
    (h : Cert.Pre_in_range.fn a0 a1 a2 a3 a4 = fun _ => 1#1) (b : Fin 96) : (a1 (ix1 b)).toNat ≤ 31 := by
  have e := congrFun h ix0
  unfold Cert.Pre_in_range.fn at e
  dsimp only at e
  have e1 := Host.reduce_andi_all _ _ _ _ ix0 e (ix1 b)
  obtain ⟨l, u⟩ := and_one _ _ e1
  exact le_of_range _ l u
end

open Cert.Pre_routed in
/-- What `routed` says. -/
theorem routed_all [Cert.Pre_routed.Facts] (a0 : FVec Ideal S24576x1024 .bf16) (a1 a2 a3 : IVec S96 32) (a4 : FVec Ideal S2x32x1024x4096 .f32)
    (h : (Cert.Pre_routed.fn a0 a1 a2 a3 a4).1 = (fun _ => 1#1) ∧ (Cert.Pre_routed.fn a0 a1 a2 a3 a4).2.1 = (fun _ => 1#1) ∧ (Cert.Pre_routed.fn a0 a1 a2 a3 a4).2.2.1 = (fun _ => 1#1)
      ∧ (Cert.Pre_routed.fn a0 a1 a2 a3 a4).2.2.2.1 = (fun _ => 1#1) ∧ (Cert.Pre_routed.fn a0 a1 a2 a3 a4).2.2.2.2 = (fun _ => 1#1)) :
    (∀ b : Fin 96, (a1 (ix1 b)).toNat ≤ 31) ∧ (∀ b : Fin 96, 0 ≤ (a2 (ix1 b)).toInt) ∧ a3 (ix1 (0 : Fin 96)) = 1#32
    ∧ (∀ (n : ℕ) (h : n + 1 < 96), a3 (ix1 (⟨n + 1, h⟩ : Fin 96)) = 1#32 ∨ a1 (ix1 (⟨n + 1, h⟩ : Fin 96)) = a1 (ix1 (⟨n, by omega⟩ : Fin 96)))
    ∧ (∀ (b : Fin 96) (r : Fin 256) (k : Fin 1024), ((a2 (ix1 b)).toInt ≤ 128 ∧ 128 ≤ r.val ∨ a2 (ix1 b) = 0#32) →
        a0 (ix2 (⟨256 * b.val + r.val, by omega⟩ : Fin 24576) k) = 0) := by
  unfold Cert.Pre_routed.fn Cert.Pre_routed.fn_part1 Cert.Pre_routed.fn_part2 at h
  dsimp only at h
  obtain ⟨h1, h2, h3, h4, h5⟩ := h
  refine ⟨fun b => ?_, fun b => ?_, ?_, fun n hn => ?_, fun b r k hs => ?_⟩
  · have e1 := Host.reduce_andi_all _ _ _ _ ix0 (congrFun h1 ix0) (ix1 b)
    obtain ⟨l, u⟩ := and_one _ _ e1
    exact le_of_range _ l u
  · have e1 := Host.reduce_andi_all _ _ _ _ ix0 (congrFun h2 ix0) (ix1 b)
    exact IntOp.cmpi_sge.1 e1
  · have e1 := congrFun h3 ix0
    pointwise at e1
    exact IntOp.cmpi_eq.1 e1
  · have e1 := Host.reduce_andi_all _ _ _ _ ix0 (congrFun h4 ix0) (ix1 (⟨n, by omega⟩ : Fin 95))
    pointwise at e1
    have hx : (⟨1 + n, by omega⟩ : Fin 96) = ⟨n + 1, hn⟩ := Fin.ext (Nat.add_comm 1 n)
    rw [hx] at e1
    exact (or_one _ _ e1).imp IntOp.cmpi_eq.1 IntOp.cmpi_eq.1
  · have e1 := Host.reduce_andi_all _ _ _ _ ix0 (congrFun h5 ix0) (ix3 b r k)
    clear h1 h2 h3 h4 h5
    pointwise at e1
    have hr := r.isLt
    have hi : (BitVec.ofNat 32 r.val).toInt = (r.val : Int) := WordCmp.toInt_ofNat_of_lt (by omega)
    have hp : IntOp.ori (IntOp.andi (IntOp.cmpi .sle (a2 (ix1 b)) 128#32) (IntOp.cmpi .sge (BitVec.ofNat 32 r.val) 128#32)) (IntOp.cmpi .eq (a2 (ix1 b)) 0#32) = 1#1 := by
      rcases hs with ⟨ha, hb⟩ | hz
      · have e2 : IntOp.cmpi .sle (a2 (ix1 b)) 128#32 = 1#1 := IntOp.cmpi_sle.2 ha
        have e3 : IntOp.cmpi .sge (BitVec.ofNat 32 r.val) 128#32 = 1#1 := IntOp.cmpi_sge.2 (by rw [hi]; show (128 : Int) ≤ r.val; exact_mod_cast hb)
        rw [e2, e3]
        exact (by decide : ∀ x : BitVec 1, IntOp.ori (IntOp.andi 1#1 1#1) x = 1#1) _
      · rw [show IntOp.cmpi .eq (a2 (ix1 b)) 0#32 = 1#1 from IntOp.cmpi_eq.2 hz]
        exact (by decide : ∀ x : BitVec 1, IntOp.ori x 1#1 = 1#1) _
    rw [hp] at e1
    have e2 := (or_one _ _ e1).resolve_left (by decide)
    have hx : (⟨b.val * 256 + r.val, by omega⟩ : Fin 24576) = ⟨256 * b.val + r.val, by omega⟩ := Fin.ext (by show b.val * 256 + r.val = 256 * b.val + r.val; omega)
    rw [hx] at e2
    exact of_decide_eq_true (by
      cases h : decide (a0 (ix2 (⟨256 * b.val + r.val, by omega⟩ : Fin 24576) k) = 0)
      · rw [h] at e2; exact absurd e2 (by decide)
      · rfl)

end Cert.MoePre

end
-- ==== Proof.Moe.Tables.lean ====
/- The precondition of the expert down-projection gives what its value needs, and the launch's run leaves that value. -/
module

public import proofs.«01_k».proof.Defs
public import proofs.«01_k».proof.Proof.Moe.Value
public import proofs.«01_k».proof.Proof.Moe.Pre

@[expose] public section

set_option maxRecDepth 16384

noncomputable section

namespace Cert.DownIdeal.Moe

open Idealize.ShloMosaic Idealize.ShloMosaic.TcCoe Idealize.SL.Sem
open Cert.DownIdeal Cert.DownIdeal.Gen
open Cert.DownRefIdeal.Moe (REF)

variable (m : (ℓ : Loc nD τ sig) → Buf (Elt Ideal) ℓ) (ρ : Dev nD → PrngReg)

theorem tables_of_routed (h : Cert.Pre_DownIdeal_routed m) : Tables m :=
  have ⟨a, b, c, d, e⟩ := Cert.MoePre.routed_all (hid m) (exp m) (cnt m) (chg m) (wts m) (h 0)
  ⟨a, b, c, d, e⟩

/-- The launch runs to the reference's value, its arguments unchanged. -/
theorem run_value (hT : Tables m) : θ_run defs (onTc (τ := τ) (main (F := Ideal))) ⟨m, fun _ => 0, ρ⟩ (fun r => ∀ c : Dev nD,
      r.2.mem ((c.tc : Thread nD τ).loc main_v0) = REF (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have hO : Ok m := ok_of_le m hT.expert
  (θ_run defs _ _).mono (fun _ h c => by
    obtain rfl : c = 0 := Subsingleton.elim _ _
    exact ⟨((h 0).1 2).trans (final m hT hO 0), ((h 0).1 0).trans <| ((dats m hO 0 0).arrAt_in 0 rfl _).trans (A_eq m hO 0 0),
      (h 0).2 main_arg1 (by decide : main_arg1 ∈ Pipeline.restRefs sig spec0),
      (h 0).2 main_arg2 (by decide : main_arg2 ∈ Pipeline.restRefs sig spec0),
      (h 0).2 main_arg3 (by decide : main_arg3 ∈ Pipeline.restRefs sig spec0),
      ((h 0).1 1).trans <| ((dats m hO 0 0).arrAt_in 1 rfl _).trans (A_eq m hO 0 1)⟩) (run_main m ρ hO (routed_of m hT))

end Cert.DownIdeal.Moe

end
-- ==== Proof.lean ====
/- The proof of the certificate's claim. The frames of the kernels and the runs of the references are generated; the value of
   each kernel is proved in its own module under Proof/, and set beside the reference's run here. -/
module

public import proofs.«01_k».proof.Defs
public import proofs.«01_k».proof.Proof.Gen.Kernel.Points
public import proofs.«01_k».proof.Proof.Gen.Pre_finite
public import proofs.«01_k».proof.Proof.Ssm.Bits.Frame
public import proofs.«01_k».proof.Proof.Ssm.RefRun
public import proofs.«01_k».proof.Proof.Ssm.Final
public import proofs.«01_k».proof.Proof.Gen.EvenIn.Frame
public import proofs.«01_k».proof.Proof.Gen.OddRwkvIn.Frame
public import proofs.«01_k».proof.Proof.Gen.OddSsmIn.Frame
public import proofs.«01_k».proof.Proof.Gen.Glu.Frame
public import proofs.«01_k».proof.Proof.Gen.OutProj.Frame
public import proofs.«01_k».proof.Proof.EvenInValue
public import proofs.«01_k».proof.Proof.OddRwkvInValue
public import proofs.«01_k».proof.Proof.OddSsmInValue
public import proofs.«01_k».proof.Proof.GluValue
public import proofs.«01_k».proof.Proof.OutProjValue
public import proofs.«01_k».proof.Proof.Gen.EvenInRefIdeal.Run
public import proofs.«01_k».proof.Proof.Gen.OddRwkvInRefIdeal.Run
public import proofs.«01_k».proof.Proof.Gen.OddSsmInRefIdeal.Run
public import proofs.«01_k».proof.Proof.Gen.GluRefIdeal.Run
public import proofs.«01_k».proof.Proof.Gen.OutProjRefIdeal.Run
public import proofs.«01_k».proof.Proof.Moe.Bits.Frame
public import proofs.«01_k».proof.Proof.Moe.Frame
public import proofs.«01_k».proof.Proof.Moe.Tables
public import proofs.«01_k».proof.Proof.Gen.DownRefIdeal.Run
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

-- The reference's iterates are taken by recursion from the memory's own initial state.
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.SsmRun.run_iter (F := Ideal) m ρ (fun c => Cert.ReferenceIdeal.SsmVal.iter (Cert.ReferenceIdeal.SsmRun.initState m c)) (fun _ => rfl) (fun _ _ => rfl))

theorem algebraic_Kernel : algebraic_KernelIdeal_ReferenceIdeal_pre_finite := by
  pair_intro
  · run_from Cert.KernelIdeal.Ssm.run_main m g
    exacts [Cert.KernelIdeal.Gen.V_main_arg1 m c, Cert.KernelIdeal.Gen.V_main_arg2 m c, Cert.KernelIdeal.Gen.V_main_arg3 m c, Cert.KernelIdeal.Gen.V_main_arg4 m c,
      Cert.KernelIdeal.Gen.V_main_arg5 m c, Cert.KernelIdeal.Gen.V_main_arg6 m c, Cert.KernelIdeal.Gen.V_main_arg7 m c, Cert.KernelIdeal.Gen.V_main_arg8 m c]
  · refine (θ_run Cert.ReferenceIdeal.defs _ _).mono ?_ (Cert.ReferenceIdeal.SsmRun.run_iter (F := Ideal) m' g' (fun c => Cert.ReferenceIdeal.SsmVal.iter (Cert.ReferenceIdeal.SsmRun.initState m' c)) (fun _ => rfl) (fun _ _ => rfl))
    intro r h c
    refine ⟨?_, (h c).2⟩
    obtain ⟨e0, e1, e2, e3, e4, e5, e6, e7, e8⟩ := hagree c
    rw [(h c).1, Cert.KernelIdeal.Ssm.final m c (hpre c)]
    unfold Cert.ReferenceIdeal.SsmRun.initState
    rw [e0, e1, e2, e3, e4, e5, e6, e7, e8]

theorem quiescent_EvenInRefIdeal : quiescent_EvenInRefIdeal := fun m ρ _ =>
  (θ_run Cert.EvenInRefIdeal.defs _ _).mono (fun r h => ⟨fun c => (h c).2, sem_eq_zero_of_no_sems (by decide) r.2⟩)
    (Cert.EvenInRefIdeal.Value.run (F := Ideal) m ρ)

theorem algebraic_EvenIn : algebraic_EvenInIdeal_EvenInRefIdeal := by
  pair_intro
  · run_from Cert.EvenInIdeal.Gen.run_main m g
  · run_from Cert.EvenInRefIdeal.Value.run m' g'
    exact (Cert.EvenInIdeal.Hand.final m c).symm

theorem quiescent_OddRwkvInRefIdeal : quiescent_OddRwkvInRefIdeal := fun m ρ _ =>
  (θ_run Cert.OddRwkvInRefIdeal.defs _ _).mono (fun r h => ⟨fun c => (h c).2, sem_eq_zero_of_no_sems (by decide) r.2⟩)
    (Cert.OddRwkvInRefIdeal.Value.run (F := Ideal) m ρ)

theorem algebraic_OddRwkvIn : algebraic_OddRwkvInIdeal_OddRwkvInRefIdeal := by
  pair_intro
  · run_from Cert.OddRwkvInIdeal.Gen.run_main m g
  · run_from Cert.OddRwkvInRefIdeal.Value.run m' g'
    exact (Cert.OddRwkvInIdeal.Hand.final m c).symm

theorem quiescent_OddSsmInRefIdeal : quiescent_OddSsmInRefIdeal := fun m ρ _ =>
  (θ_run Cert.OddSsmInRefIdeal.defs _ _).mono (fun r h => ⟨fun c => (h c).2, sem_eq_zero_of_no_sems (by decide) r.2⟩)
    (Cert.OddSsmInRefIdeal.Value.run (F := Ideal) m ρ)

theorem algebraic_OddSsmIn : algebraic_OddSsmInIdeal_OddSsmInRefIdeal := by
  pair_intro
  · run_from Cert.OddSsmInIdeal.Gen.run_main m g
  · run_from Cert.OddSsmInRefIdeal.Value.run m' g'
    exact (Cert.OddSsmInIdeal.Hand.final m c).symm

theorem quiescent_GluRefIdeal : quiescent_GluRefIdeal := fun m ρ _ =>
  (θ_run Cert.GluRefIdeal.defs _ _).mono (fun r h => ⟨fun c => (h c).2, sem_eq_zero_of_no_sems (by decide) r.2⟩)
    (Cert.GluRefIdeal.Value.run (F := Ideal) m ρ)

theorem algebraic_Glu : algebraic_GluIdeal_GluRefIdeal := by
  pair_intro
  · run_from Cert.GluIdeal.Gen.run_main m g
  · run_from Cert.GluRefIdeal.Value.run m' g'
    exact (Cert.GluIdeal.Hand.final m c).symm

theorem quiescent_OutProjRefIdeal : quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem algebraic_OutProj : algebraic_OutProjIdeal_OutProjRefIdeal := by
  pair_intro
  · run_from Cert.OutProjIdeal.Gen.run_main m g
  · run_from Cert.OutProjRefIdeal.Value.run m' g'
    exact (Cert.OutProjIdeal.Hand.final m c).symm

theorem quiescent_DownRefIdeal : quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem quiescent_Down : quiescent_Down := fun m ρ h =>
  Cert.Down.Moe.frame_any m ρ (Cert.Down.Moe.ok_of_le m (Cert.MoePre.in_range_le _ _ _ _ _ (h 0)))

theorem quiescent_DownIdeal : quiescent_DownIdeal := fun m ρ h =>
  Cert.DownIdeal.Moe.frame_any m ρ (Cert.DownIdeal.Moe.ok_of_le m (Cert.MoePre.in_range_le _ _ _ _ _ (h 0)))

theorem algebraic_Down : algebraic_DownIdeal_DownRefIdeal_pre_routed := by
  pair_intro
  · run_from Cert.DownIdeal.Moe.run_value m g (Cert.DownIdeal.Moe.tables_of_routed m hpre)
  · refine (θ_run Cert.DownRefIdeal.defs _ _).mono ?_ (Cert.DownRefIdeal.Value.run (F := Ideal) m' g')
    intro r h c
    obtain ⟨e0, e1, _, _, e4⟩ := hagree c
    exact ⟨(h c).1.trans (Cert.DownRefIdeal.Moe.REF_congr e0 e1 e4), (h c).2⟩

theorem claim : Cert.Claim := ⟨Cert.Kernel.Gen.facts, Cert.KernelIdeal.Gen.facts, Cert.ReferenceIdeal.Gen.facts, Cert.EvenIn.Gen.facts, Cert.EvenInIdeal.Gen.facts, Cert.EvenInRefIdeal.Gen.facts, Cert.OddRwkvIn.Gen.facts, Cert.OddRwkvInIdeal.Gen.facts, Cert.OddRwkvInRefIdeal.Gen.facts, Cert.OddSsmIn.Gen.facts, Cert.OddSsmInIdeal.Gen.facts, Cert.OddSsmInRefIdeal.Gen.facts, Cert.Glu.Gen.facts, Cert.GluIdeal.Gen.facts, Cert.GluRefIdeal.Gen.facts, Cert.OutProj.Gen.facts, Cert.OutProjIdeal.Gen.facts, Cert.OutProjRefIdeal.Gen.facts, Cert.Down.Gen.facts, Cert.DownIdeal.Gen.facts, Cert.DownRefIdeal.Gen.facts, Cert.Pre_finite.Gen.facts, Cert.Pre_in_range.Gen.facts, Cert.Pre_routed.Gen.facts,
  fun m ρ _ => Cert.Kernel.Ssm.frame m ρ, fun m ρ _ => Cert.KernelIdeal.Ssm.frame m ρ, fun m ρ _ => Cert.KernelIdeal.Ssm.frame m ρ,
  quiescent_ReferenceIdeal, fun m ρ _ => quiescent_ReferenceIdeal m ρ trivial,
  fun m ρ _ => Cert.EvenIn.Gen.frame m ρ, fun m ρ _ => Cert.EvenInIdeal.Gen.frame m ρ, quiescent_EvenInRefIdeal,
  fun m ρ _ => Cert.OddRwkvIn.Gen.frame m ρ, fun m ρ _ => Cert.OddRwkvInIdeal.Gen.frame m ρ, quiescent_OddRwkvInRefIdeal,
  fun m ρ _ => Cert.OddSsmIn.Gen.frame m ρ, fun m ρ _ => Cert.OddSsmInIdeal.Gen.frame m ρ, quiescent_OddSsmInRefIdeal,
  fun m ρ _ => Cert.Glu.Gen.frame m ρ, fun m ρ _ => Cert.GluIdeal.Gen.frame m ρ, quiescent_GluRefIdeal,
  fun m ρ _ => Cert.OutProj.Gen.frame m ρ, fun m ρ _ => Cert.OutProjIdeal.Gen.frame m ρ, quiescent_OutProjRefIdeal,
  quiescent_Down, quiescent_DownIdeal, fun m ρ h => Cert.DownIdeal.Moe.frame_any m ρ (Cert.DownIdeal.Moe.ok_of_le m (Cert.DownIdeal.Moe.tables_of_routed m h).expert),
  quiescent_DownRefIdeal, fun m ρ _ => quiescent_DownRefIdeal m ρ trivial,
  trivial, algebraic_Kernel,
  trivial, algebraic_EvenIn,
  trivial, algebraic_OddRwkvIn,
  trivial, algebraic_OddSsmIn,
  trivial, algebraic_Glu,
  trivial, algebraic_OutProj,
  trivial, algebraic_Down⟩

end Cert.Proof

end
